-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x8192x2048 : Shape := ⟨3, ![8, 8192, 2048]⟩
abbrev S8x8192x256 : Shape := ⟨3, ![8, 8192, 256]⟩
abbrev S_ : Shape := ⟨0, ![]⟩

class Facts : Prop where
  bitsLt_bf16_f32 : FTy.bits .bf16 < FTy.bits .f32
  bcast_S_S8x8192x2048 : S_.BroadcastsInDim S8x8192x2048 (![] : Fin 0 → Fin S8x8192x2048.rank)
  reducesTo_S8x8192x2048_S_d0_1_2 : S8x8192x2048.ReducesTo [0, 1, 2] S_
  h_S_ : 0 < S_.numel
  bcast_S_S8x8192x256 : S_.BroadcastsInDim S8x8192x256 (![] : Fin 0 → Fin S8x8192x256.rank)
  reducesTo_S8x8192x256_S_d0_1_2 : S8x8192x256.ReducesTo [0, 1, 2] S_

variable [Facts]

def fn {F : FTy → Type} [FloatOps F] (main_arg0 : FVec F S8x8192x2048 .bf16) (main_arg1 : FVec F S8x8192x256 .bf16) (main_arg2 : FVec F S8x8192x256 .bf16) : IVec S_ 1 :=
  let main_v0 : FVec F S8x8192x2048 .f32 := (extf .f32 · bitsLt_bf16_f32) main_arg0
  let main_v1 : FVec F S8x8192x2048 .f32 := Host.absf main_v0
  let main_cst : FVec F S_ .f32 := constant S_ .f32 0x7F7F0000#32
  let main_v2 : FVec F S8x8192x2048 .f32 := broadcastInDim S8x8192x2048 ![] bcast_S_S8x8192x2048 main_cst
  let main_v3 : IVec S8x8192x2048 1 := cmpf .ole main_v1 main_v2
  let main_c : IVec S_ 1 := constantI S_ 1 1#1
  let main_v4 : IVec S_ 1 := (fun x v => Host.reduce IntOp.andi x v reducesTo_S8x8192x2048_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F7F0000#32
  let main_v7 : FVec F S8x8192x256 .f32 := broadcastInDim S8x8192x256 ![] bcast_S_S8x8192x256 main_cst_0
  let main_v8 : IVec S8x8192x256 1 := cmpf .ole main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  let main_v11 : FVec F S8x8192x256 .f32 := (extf .f32 · bitsLt_bf16_f32) main_arg2
  let main_v12 : FVec F S8x8192x256 .f32 := Host.absf main_v11
  let main_cst_2 : FVec F S_ .f32 := constant S_ .f32 0x7F7F0000#32
  let main_v13 : FVec F S8x8192x256 .f32 := broadcastInDim S8x8192x256 ![] bcast_S_S8x8192x256 main_cst_2
  let main_v14 : IVec S8x8192x256 1 := cmpf .ole main_v12 main_v13
  let main_c_3 : IVec S_ 1 := constantI S_ 1 1#1
  let main_v15 : IVec S_ 1 := (fun x v => Host.reduce IntOp.andi x v reducesTo_S8x8192x256_S_d0_1_2 h_S_) main_v14 main_c_3
  let main_v16 : IVec S_ 1 := andi main_v10 main_v15
  main_v16
-- ==== Kernel.lean ====
abbrev S8x8192x2048 : Shape := ⟨3, ![8, 8192, 2048]⟩
abbrev S8x8192x256 : Shape := ⟨3, ![8, 8192, 256]⟩
abbrev S8x64x2048 : Shape := ⟨3, ![8, 64, 2048]⟩
abbrev S8x64x256 : Shape := ⟨3, ![8, 64, 256]⟩
abbrev S8x256x8192 : Shape := ⟨3, ![8, 256, 8192]⟩
abbrev S1x1024x2048 : Shape := ⟨3, ![1, 1024, 2048]⟩
abbrev S1x1024x256 : Shape := ⟨3, ![1, 1024, 256]⟩
abbrev S1x8x2048 : Shape := ⟨3, ![1, 8, 2048]⟩
abbrev S1x8x256 : Shape := ⟨3, ![1, 8, 256]⟩
abbrev S1x256x1024 : Shape := ⟨3, ![1, 256, 1024]⟩
abbrev S1024x2048 : Shape := ⟨2, ![1024, 2048]⟩
abbrev S8x128x2048 : Shape := ⟨3, ![8, 128, 2048]⟩
abbrev S8x2048 : Shape := ⟨2, ![8, 2048]⟩
abbrev S8x128 : Shape := ⟨2, ![8, 128]⟩
abbrev S8 : Shape := ⟨1, ![8]⟩
abbrev S8x1 : Shape := ⟨2, ![8, 1]⟩
abbrev S8x1x2048 : Shape := ⟨3, ![8, 1, 2048]⟩
abbrev S1024x256 : Shape := ⟨2, ![1024, 256]⟩
abbrev S8x128x256 : Shape := ⟨3, ![8, 128, 256]⟩
abbrev S8x256 : Shape := ⟨2, ![8, 256]⟩
abbrev S8x1x256 : Shape := ⟨3, ![8, 1, 256]⟩
abbrev S256x1024 : Shape := ⟨2, ![256, 1024]⟩
abbrev S8x64x1x2048 : Shape := ⟨4, ![8, 64, 1, 2048]⟩
abbrev S1x128x256 : Shape := ⟨3, ![1, 128, 256]⟩
abbrev S1x1x1x256 : Shape := ⟨4, ![1, 1, 1, 256]⟩
abbrev S1x8192x128 : Shape := ⟨3, ![1, 8192, 128]⟩
abbrev S1x64x128 : Shape := ⟨3, ![1, 64, 128]⟩
abbrev S1x128x8192 : Shape := ⟨3, ![1, 128, 8192]⟩
abbrev S8192x256 : Shape := ⟨2, ![8192, 256]⟩
abbrev S64x8x256 : Shape := ⟨3, ![64, 8, 256]⟩
abbrev S64x256 : Shape := ⟨2, ![64, 256]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S16x8x256 : Shape := ⟨3, ![16, 8, 256]⟩
abbrev S1x256 : Shape := ⟨2, ![1, 256]⟩
abbrev S64x128 : Shape := ⟨2, ![64, 128]⟩
abbrev S256 : Shape := ⟨1, ![256]⟩
abbrev S64 : Shape := ⟨1, ![64]⟩
abbrev S64x1 : Shape := ⟨2, ![64, 1]⟩
abbrev S8x8192x16x128 : Shape := ⟨4, ![8, 8192, 16, 128]⟩
abbrev S8x64x16x128 : Shape := ⟨4, ![8, 64, 16, 128]⟩
abbrev S8x64x16x1 : Shape := ⟨4, ![8, 64, 16, 1]⟩
abbrev S8x64x16 : Shape := ⟨3, ![8, 64, 16]⟩
abbrev S8x8192x2x128 : Shape := ⟨4, ![8, 8192, 2, 128]⟩
abbrev S8x64x2x128 : Shape := ⟨4, ![8, 64, 2, 128]⟩
abbrev S8x64x2x1 : Shape := ⟨4, ![8, 64, 2, 1]⟩
abbrev S8x64x2 : Shape := ⟨3, ![8, 64, 2]⟩

abbrev nBuf : Space → Nat
  | .hbm => 24
  | .vmem => 42
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x256, .bf16⟩
  | .hbm, ⟨2, _⟩ => ⟨S8x8192x256, .bf16⟩
  | .hbm, ⟨3, _⟩ => ⟨S8x8192x2048, .fp8e4m3⟩
  | .hbm, ⟨4, _⟩ => ⟨S8x64x2048, .f32⟩
  | .hbm, ⟨5, _⟩ => ⟨S8x8192x256, .fp8e4m3⟩
  | .hbm, ⟨6, _⟩ => ⟨S8x64x256, .f32⟩
  | .hbm, ⟨7, _⟩ => ⟨S8x8192x256, .fp8e4m3⟩
  | .hbm, ⟨8, _⟩ => ⟨S8x64x256, .f32⟩
  | .hbm, ⟨9, _⟩ => ⟨S8x256x8192, .fp8e4m3⟩
  | .hbm, ⟨10, _⟩ => ⟨S8x64x1x2048, .f32⟩
  | .hbm, ⟨11, _⟩ => ⟨S8x8192x2048, .bf16⟩
  | .hbm, ⟨12, _⟩ => ⟨S8x8192x16x128, .fp8e4m3⟩
  | .hbm, ⟨13, _⟩ => ⟨S8x64x16x128, .f32⟩
  | .hbm, ⟨14, _⟩ => ⟨S8x64x16x1, .f32⟩
  | .hbm, ⟨15, _⟩ => ⟨S8x64x16, .f32⟩
  | .hbm, ⟨16, _⟩ => ⟨S8x8192x2x128, .fp8e4m3⟩
  | .hbm, ⟨17, _⟩ => ⟨S8x64x2x128, .f32⟩
  | .hbm, ⟨18, _⟩ => ⟨S8x64x2x1, .f32⟩
  | .hbm, ⟨19, _⟩ => ⟨S8x64x2, .f32⟩
  | .hbm, ⟨20, _⟩ => ⟨S8x8192x2x128, .fp8e4m3⟩
  | .hbm, ⟨21, _⟩ => ⟨S8x64x2x128, .f32⟩
  | .hbm, ⟨22, _⟩ => ⟨S8x64x2x1, .f32⟩
  | .hbm, ⟨23, _⟩ => ⟨S8x64x2, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x2048, .fp8e4m3⟩
  | .local _ .vmem, ⟨7, _⟩ => ⟨S1x1024x2048, .fp8e4m3⟩
  | .local _ .vmem, ⟨8, _⟩ => ⟨S1x8x2048, .f32⟩
  | .local _ .vmem, ⟨9, _⟩ => ⟨S1x8x2048, .f32⟩
  | .local _ .vmem, ⟨10, _⟩ => ⟨S1x1024x256, .fp8e4m3⟩
  | .local _ .vmem, ⟨11, _⟩ => ⟨S1x1024x256, .fp8e4m3⟩
  | .local _ .vmem, ⟨12, _⟩ => ⟨S1x8x256, .f32⟩
  | .local _ .vmem, ⟨13, _⟩ => ⟨S1x8x256, .f32⟩
  | .local _ .vmem, ⟨14, _⟩ => ⟨S1x1024x256, .fp8e4m3⟩
  | .local _ .vmem, ⟨15, _⟩ => ⟨S1x1024x256, .fp8e4m3⟩
  | .local _ .vmem, ⟨16, _⟩ => ⟨S1x8x256, .f32⟩
  | .local _ .vmem, ⟨17, _⟩ => ⟨S1x8x256, .f32⟩
  | .local _ .vmem, ⟨18, _⟩ => ⟨S1x256x1024, .fp8e4m3⟩
  | .local _ .vmem, ⟨19, _⟩ => ⟨S1x256x1024, .fp8e4m3⟩
  | .local _ .vmem, ⟨20, _⟩ => ⟨S1x128x256, .fp8e4m3⟩
  | .local _ .vmem, ⟨21, _⟩ => ⟨S1x128x256, .fp8e4m3⟩
  | .local _ .vmem, ⟨22, _⟩ => ⟨S1x1x1x256, .f32⟩
  | .local _ .vmem, ⟨23, _⟩ => ⟨S1x1x1x256, .f32⟩
  | .local _ .vmem, ⟨24, _⟩ => ⟨S1x8192x128, .fp8e4m3⟩
  | .local _ .vmem, ⟨25, _⟩ => ⟨S1x8192x128, .fp8e4m3⟩
  | .local _ .vmem, ⟨26, _⟩ => ⟨S1x64x128, .f32⟩
  | .local _ .vmem, ⟨27, _⟩ => ⟨S1x64x128, .f32⟩
  | .local _ .vmem, ⟨28, _⟩ => ⟨S1x128x8192, .fp8e4m3⟩
  | .local _ .vmem, ⟨29, _⟩ => ⟨S1x128x8192, .fp8e4m3⟩
  | .local _ .vmem, ⟨30, _⟩ => ⟨S1x64x128, .f32⟩
  | .local _ .vmem, ⟨31, _⟩ => ⟨S1x64x128, .f32⟩
  | .local _ .vmem, ⟨32, _⟩ => ⟨S1x128x256, .bf16⟩
  | .local _ .vmem, ⟨33, _⟩ => ⟨S1x128x256, .bf16⟩
  | .local _ .vmem, ⟨34, _⟩ => ⟨S8192x256, .f32⟩
  | .local _ .vmem, ⟨35, _⟩ => ⟨S64x8x256, .f32⟩
  | .local _ .vmem, ⟨36, _⟩ => ⟨S64x256, .f32⟩
  | .local _ .vmem, ⟨37, _⟩ => ⟨S64x256, .f32⟩
  | .local _ .vmem, ⟨38, _⟩ => ⟨S64x256, .f32⟩
  | .local _ .vmem, ⟨39, _⟩ => ⟨S64x256, .f32⟩
  | .local _ .vmem, ⟨40, _⟩ => ⟨S128x256, .f32⟩
  | .local _ .vmem, ⟨41, _⟩ => ⟨S8x256, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_scratch0 : Ref sig .tc := ⟨.vmem, 34, rfl⟩
abbrev cc1_scratch1 : Ref sig .tc := ⟨.vmem, 35, rfl⟩
abbrev cc1_scratch2 : Ref sig .tc := ⟨.vmem, 36, rfl⟩
abbrev cc1_scratch3 : Ref sig .tc := ⟨.vmem, 37, rfl⟩
abbrev cc1_scratch4 : Ref sig .tc := ⟨.vmem, 38, rfl⟩
abbrev cc1_scratch5 : Ref sig .tc := ⟨.vmem, 39, rfl⟩
abbrev cc1_scratch6 : Ref sig .tc := ⟨.vmem, 40, rfl⟩
abbrev cc1_scratch7 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨4, ![8, 2, 64, 4], ![false, false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  ![arg0.toNat, arg2.toNat, v1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  let c0_i32_0 : BitVec 32 := 0#32
  ![arg0.toNat, arg2.toNat, c0_i32.toNat, v1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  ![arg0.toNat, arg2.toNat, v1.toNat]

abbrev stage1_0 : Fin 2 → Memref sig .tc .vmem S1x128x256 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, true]

abbrev stage1_1 : Fin 2 → Memref sig .tc .vmem S1x1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true, true]

abbrev stage1_2 : Fin 2 → Memref sig .tc .vmem S1x8192x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, false]

abbrev stage1_3 : Fin 2 → Memref sig .tc .vmem S1x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false, false]

abbrev stage1_4 : Fin 2 → Memref sig .tc .vmem S1x128x8192 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false, false]

abbrev stage1_5 : Fin 2 → Memref sig .tc .vmem S1x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false, false]

abbrev stage1_6 : Fin 2 → Memref sig .tc .vmem S1x128x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x8192x2048 : Shape := ⟨3, ![8, 8192, 2048]⟩
abbrev S8x8192x256 : Shape := ⟨3, ![8, 8192, 256]⟩
abbrev S8x8192x16x128 : Shape := ⟨4, ![8, 8192, 16, 128]⟩
abbrev S8x64x16 : Shape := ⟨3, ![8, 64, 16]⟩
abbrev S8x8192x2x128 : Shape := ⟨4, ![8, 8192, 2, 128]⟩
abbrev S8x64x2 : Shape := ⟨3, ![8, 64, 2]⟩
abbrev S8x64x128x16x128 : Shape := ⟨5, ![8, 64, 128, 16, 128]⟩
abbrev S8x64x128x16 : Shape := ⟨4, ![8, 64, 128, 16]⟩
abbrev S8x64x128x16x1 : Shape := ⟨5, ![8, 64, 128, 16, 1]⟩
abbrev S8x64x16x1 : Shape := ⟨4, ![8, 64, 16, 1]⟩
abbrev S8x64x1x16x1 : Shape := ⟨5, ![8, 64, 1, 16, 1]⟩
abbrev S8x64x128x2x128 : Shape := ⟨5, ![8, 64, 128, 2, 128]⟩
abbrev S8x64x128x2 : Shape := ⟨4, ![8, 64, 128, 2]⟩
abbrev S8x64x128x2x1 : Shape := ⟨5, ![8, 64, 128, 2, 1]⟩
abbrev S8x64x2x1 : Shape := ⟨4, ![8, 64, 2, 1]⟩
abbrev S8x64x1x2x1 : Shape := ⟨5, ![8, 64, 1, 2, 1]⟩
abbrev S8x16x8192x128 : Shape := ⟨4, ![8, 16, 8192, 128]⟩
abbrev S128x8192x128 : Shape := ⟨3, ![128, 8192, 128]⟩
abbrev S8x2x8192x128 : Shape := ⟨4, ![8, 2, 8192, 128]⟩
abbrev S8x2x1x8192x128 : Shape := ⟨5, ![8, 2, 1, 8192, 128]⟩
abbrev S8x2x8x8192x128 : Shape := ⟨5, ![8, 2, 8, 8192, 128]⟩
abbrev S128x8192x8192 : Shape := ⟨3, ![128, 8192, 8192]⟩
abbrev S128x64x128x64x128 : Shape := ⟨5, ![128, 64, 128, 64, 128]⟩
abbrev S8x16x64 : Shape := ⟨3, ![8, 16, 64]⟩
abbrev S128x64x1x1x1 : Shape := ⟨5, ![128, 64, 1, 1, 1]⟩
abbrev S8x2x64 : Shape := ⟨3, ![8, 2, 64]⟩
abbrev S8x2x1x64 : Shape := ⟨4, ![8, 2, 1, 64]⟩
abbrev S8x2x8x64 : Shape := ⟨4, ![8, 2, 8, 64]⟩
abbrev S128x1x1x64x1 : Shape := ⟨5, ![128, 1, 1, 64, 1]⟩
abbrev S128x64x128x64 : Shape := ⟨4, ![128, 64, 128, 64]⟩
abbrev S128x64x128x64x1 : Shape := ⟨5, ![128, 64, 128, 64, 1]⟩
abbrev S128x64x128x1 : Shape := ⟨4, ![128, 64, 128, 1]⟩
abbrev S128x64x128x1x1 : Shape := ⟨5, ![128, 64, 128, 1, 1]⟩
abbrev S128x64x128 : Shape := ⟨3, ![128, 64, 128]⟩
abbrev S128x64x64x1 : Shape := ⟨4, ![128, 64, 64, 1]⟩
abbrev S128x64x1x64x1 : Shape := ⟨5, ![128, 64, 1, 64, 1]⟩
abbrev S128x64x64x128x128 : Shape := ⟨5, ![128, 64, 64, 128, 128]⟩
abbrev S8192x8192x128 : Shape := ⟨3, ![8192, 8192, 128]⟩
abbrev S8192x128x128 : Shape := ⟨3, ![8192, 128, 128]⟩
abbrev S128x64x128x128 : Shape := ⟨4, ![128, 64, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x256, .bf16⟩
  | .hbm, ⟨2, _⟩ => ⟨S8x8192x256, .bf16⟩
  | .hbm, ⟨3, _⟩ => ⟨S8x8192x2048, .bf16⟩
  | .hbm, ⟨4, _⟩ => ⟨S8x8192x16x128, .fp8e4m3⟩
  | .hbm, ⟨5, _⟩ => ⟨S8x64x16, .f32⟩
  | .hbm, ⟨6, _⟩ => ⟨S8x8192x2x128, .fp8e4m3⟩
  | .hbm, ⟨7, _⟩ => ⟨S8x64x2, .f32⟩
  | .hbm, ⟨8, _⟩ => ⟨S8x8192x2x128, .fp8e4m3⟩
  | .hbm, ⟨9, _⟩ => ⟨S8x64x2, .f32⟩
  | .local _ .vmem, ⟨0, _⟩ => ⟨S8x8192x2048, .bf16⟩
  | .local _ .vmem, ⟨1, _⟩ => ⟨S8x8192x256, .bf16⟩
  | .local _ .vmem, ⟨2, _⟩ => ⟨S8x8192x256, .bf16⟩
  | .local _ .vmem, ⟨3, _⟩ => ⟨S8x8192x2048, .bf16⟩
  | .local _ .vmem, ⟨4, _⟩ => ⟨S8x8192x16x128, .fp8e4m3⟩
  | .local _ .vmem, ⟨5, _⟩ => ⟨S8x64x16, .f32⟩
  | .local _ .vmem, ⟨6, _⟩ => ⟨S8x8192x2x128, .fp8e4m3⟩
  | .local _ .vmem, ⟨7, _⟩ => ⟨S8x64x2, .f32⟩
  | .local _ .vmem, ⟨8, _⟩ => ⟨S8x8192x2x128, .fp8e4m3⟩
  | .local _ .vmem, ⟨9, _⟩ => ⟨S8x64x2, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S8x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x16x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192x2x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x64x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x8192x2x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x64x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Exponent.lean ====
module

public import Idealize.ShloMosaic.Lib.Pointwise

/-! The exponent a group of values is given, as a real function and as the kernel's search over bit patterns. -/

@[expose] public section

set_option maxRecDepth 16384

noncomputable section

namespace Cert.Val

open Idealize.ShloMosaic

/-- One step of the kernel's search: the larger candidate is taken when its power of two is at most `y`. -/
def srch (y : EReal) (b st : BitVec 32) : BitVec 32 :=
  if Ideal.ofBits .f32 (IntOp.shli .vector (IntOp.addi b st) 23#32) ≤ y then IntOp.addi b st else b

/-- The kernel's exponent of a group whose largest magnitude is `a`, as a 32-bit integer. -/
def kexp (a : EReal) : BitVec 32 :=
  if Ideal.ofBits .f32 226492416#32 < a then
    IntOp.subi (srch (a * Ideal.ofBits .f32 991054117#32) (srch (a * Ideal.ofBits .f32 991054117#32) (srch (a * Ideal.ofBits .f32 991054117#32)
      (srch (a * Ideal.ofBits .f32 991054117#32) (srch (a * Ideal.ofBits .f32 991054117#32) (srch (a * Ideal.ofBits .f32 991054117#32)
      (srch (a * Ideal.ofBits .f32 991054117#32) (srch (a * Ideal.ofBits .f32 991054117#32) 0#32 128#32) 64#32) 32#32) 16#32) 8#32) 4#32) 2#32) 1#32) 126#32
  else 0#32

/-- The factor a group's largest magnitude is divided by 448 with, as a real number. -/
def cInv : ℝ := 9586981 * (2 : ℝ) ^ (-32 : ℤ)

/-- The exponent of a group whose largest magnitude is `a`. -/
def expo (a : ℝ) : ℤ := if (2 : ℝ) ^ (-100 : ℤ) < a then ⌊Real.log (a * cInv) / Real.log 2⌋ + 1 else 0

/-- The word of the float nearest 1/448, read as a real number. -/
theorem ofBits_cInv : Ideal.ofBits .f32 991054117#32 = ((cInv : ℝ) : EReal) := by
  have h1 : (BitVec.extractLsb' 23 8 991054117#32).toNat = 118 := by decide
  have h2 : (BitVec.extractLsb' 0 23 991054117#32).toNat = 1198373 := by decide
  have h3 : (BitVec.extractLsb' (8 + 23) 1 991054117#32 == 1#1) = false := by decide
  simp only [Ideal.ofBits, Ideal.ieee, h1, h2, h3, cInv]
  norm_num

/-- The word of `2 ^ -100`, read as a real number. -/
theorem ofBits_tiny : Ideal.ofBits .f32 226492416#32 = (((2 : ℝ) ^ (-100 : ℤ) : ℝ) : EReal) := by
  have h1 : (BitVec.extractLsb' 23 8 226492416#32).toNat = 27 := by decide
  have h2 : (BitVec.extractLsb' 0 23 226492416#32).toNat = 0 := by decide
  have h3 : (BitVec.extractLsb' (8 + 23) 1 226492416#32 == 1#1) = false := by decide
  simp only [Ideal.ofBits, Ideal.ieee, h1, h2, h3]
  norm_num

/-- The fields of the word of a biased exponent shifted into place. -/
theorem pow_facts : ∀ n : Fin 256, (BitVec.extractLsb' 23 8 (IntOp.shli .vector (BitVec.ofNat 32 n) 23#32)).toNat = n.val
    ∧ (BitVec.extractLsb' 0 23 (IntOp.shli .vector (BitVec.ofNat 32 n) 23#32)).toNat = 0
    ∧ (BitVec.extractLsb' (8 + 23) 1 (IntOp.shli .vector (BitVec.ofNat 32 n) 23#32) == 1#1) = false := by decide +kernel

/-- A biased exponent `n` shifted into place reads as `2 ^ (n - 127)`. -/
theorem ofBits_pow (n : ℕ) (h1 : 1 ≤ n) (h2 : n ≤ 254) :
    Ideal.ofBits .f32 (IntOp.shli .vector (BitVec.ofNat 32 n) 23#32) = (((2 : ℝ) ^ ((n : ℤ) - 127) : ℝ) : EReal) := by
  obtain ⟨e1, e2, e3⟩ := pow_facts ⟨n, by omega⟩
  simp only at e1 e2 e3
  have a1 : n ≠ 2 ^ 8 - 1 := by omega
  have a2 : n ≠ 0 := by omega
  simp only [Ideal.ofBits, Ideal.ieee, e1, e2, e3, a1, a2, if_false]
  refine congrArg _ ?_
  have : ((n : ℤ) - (2 ^ (8 - 1) - 1) - ((23 : ℕ) : ℤ)) = ((n : ℤ) - 127) + (-23) := by norm_num; ring
  rw [this, zpow_add₀ (by norm_num)]
  norm_num
  ring

/-- The largest biased exponent, shifted into place, reads as infinity. -/
theorem ofBits_top : Ideal.ofBits .f32 (IntOp.shli .vector (BitVec.ofNat 32 255) 23#32) = ⊤ := by
  obtain ⟨e1, e2, e3⟩ := pow_facts ⟨255, by omega⟩
  simp only at e1 e2 e3
  simp only [Ideal.ofBits, Ideal.ieee, e1, e2, e3]
  norm_num

/-- What the search knows after its steps down to `s`. -/
def Inv (y : ℝ) (s n : ℕ) : Prop := (n = 0 ∨ (2 : ℝ) ^ ((n : ℤ) - 127) ≤ y) ∧ y < (2 : ℝ) ^ (((n + s : ℕ) : ℤ) - 127) ∧ n + s ≤ 256

/-- One step of the search halves the range that the exponent may lie in. -/
theorem srch_step (y : ℝ) (s n : ℕ) (hs : 1 ≤ s) (hy : y < (2 : ℝ) ^ (127 : ℤ)) (h : Inv y (2 * s) n) :
    ∃ n', srch y (BitVec.ofNat 32 n) (BitVec.ofNat 32 s) = BitVec.ofNat 32 n' ∧ Inv y s n' := by
  obtain ⟨h1, h2, h3⟩ := h
  have hadd : IntOp.addi (BitVec.ofNat 32 n) (BitVec.ofNat 32 s) = BitVec.ofNat 32 (n + s) := (BitVec.ofNat_add n s).symm
  unfold srch
  rw [hadd]
  by_cases hn : n + s = 255
  · rw [hn, ofBits_top, if_neg (by simp)]
    refine ⟨n, rfl, h1, ?_, by omega⟩
    exact hy.trans_le (zpow_le_zpow_right₀ (by norm_num) (by push_cast; omega))
  · rw [ofBits_pow _ (by omega) (by omega)]
    by_cases hy : (2 : ℝ) ^ (((n + s : ℕ) : ℤ) - 127) ≤ y
    · rw [if_pos (by exact_mod_cast hy)]
      exact ⟨n + s, rfl, .inr hy, by rwa [show n + s + s = n + 2 * s by ring], by omega⟩
    · rw [if_neg (by exact_mod_cast hy)]
      exact ⟨n, rfl, h1, not_le.1 hy, by omega⟩

/-- The factor is positive. -/
theorem cInv_pos : 0 < cInv := by unfold cInv; positivity

/-- The factor is less than `2 ^ -8`. -/
theorem cInv_lt : cInv < (2 : ℝ) ^ (-8 : ℤ) := by unfold cInv; norm_num

/-- The factor is more than `2 ^ -9`. -/
theorem cInv_gt : (2 : ℝ) ^ (-9 : ℤ) < cInv := by unfold cInv; norm_num

/-- On the real numbers the kernel's exponent is `expo`. -/
theorem kexp_eq (a : ℝ) (ha : a < (2 : ℝ) ^ (128 : ℤ)) :
    kexp a = BitVec.ofInt 32 (expo a) := by
  unfold kexp expo
  rw [ofBits_tiny]
  by_cases h : (2 : ℝ) ^ (-100 : ℤ) < a
  · rw [if_pos (by exact_mod_cast h), if_pos h, ofBits_cInv, ← EReal.coe_mul]
    have ha0 : 0 < a := lt_trans (by positivity) h
    have hy1 : (2 : ℝ) ^ (-109 : ℤ) < a * cInv := by
      have : (2 : ℝ) ^ (-109 : ℤ) = (2 : ℝ) ^ (-100 : ℤ) * (2 : ℝ) ^ (-9 : ℤ) := by norm_num
      rw [this]; exact mul_lt_mul h cInv_gt.le (by positivity) ha0.le
    have hy2 : a * cInv < (2 : ℝ) ^ (127 : ℤ) := by
      calc a * cInv < (2 : ℝ) ^ (128 : ℤ) * (2 : ℝ) ^ (-8 : ℤ) := mul_lt_mul ha cInv_lt.le cInv_pos (by positivity)
        _ ≤ _ := by norm_num
    generalize a * cInv = y at hy1 hy2
    have i0 : Inv y (2 * 128) 0 := ⟨.inl rfl, hy2.trans (by norm_num), by norm_num⟩
    obtain ⟨n1, e1, i1⟩ := srch_step y 128 0 (by norm_num) hy2 i0
    obtain ⟨n2, e2, i2⟩ := srch_step y 64 n1 (by norm_num) hy2 i1
    obtain ⟨n3, e3, i3⟩ := srch_step y 32 n2 (by norm_num) hy2 i2
    obtain ⟨n4, e4, i4⟩ := srch_step y 16 n3 (by norm_num) hy2 i3
    obtain ⟨n5, e5, i5⟩ := srch_step y 8 n4 (by norm_num) hy2 i4
    obtain ⟨n6, e6, i6⟩ := srch_step y 4 n5 (by norm_num) hy2 i5
    obtain ⟨n7, e7, i7⟩ := srch_step y 2 n6 (by norm_num) hy2 i6
    obtain ⟨n8, e8, i8⟩ := srch_step y 1 n7 (by norm_num) hy2 i7
    rw [e1, e2, e3, e4, e5, e6, e7, e8]
    obtain ⟨j1, j2, j3⟩ := i8
    have hpos : 0 < y := lt_trans (by positivity) hy1
    have j1' : (2 : ℝ) ^ ((n8 : ℤ) - 127) ≤ y := by
      rcases j1 with rfl | j1
      · exact absurd (hy1.trans (j2.trans_le (zpow_le_zpow_right₀ (by norm_num) (by norm_num)))) (lt_irrefl _)
      · exact j1
    have hl : 0 < Real.log 2 := Real.log_pos (by norm_num)
    have hf : ⌊Real.log y / Real.log 2⌋ = (n8 : ℤ) - 127 := by
      rw [Int.floor_eq_iff]
      constructor
      · rw [le_div_iff₀ hl, ← Real.log_zpow]
        exact Real.log_le_log (by positivity) j1'
      · rw [div_lt_iff₀ hl]
        have : Real.log y < Real.log ((2 : ℝ) ^ (((n8 + 1 : ℕ) : ℤ) - 127)) := Real.log_lt_log hpos j2
        rw [Real.log_zpow] at this
        refine this.trans_le (le_of_eq ?_)
        push_cast; ring
    rw [hf]
    show BitVec.ofNat 32 n8 - 126#32 = _
    have hb : ∀ n : Fin 257, BitVec.ofNat 32 n - 126#32 = BitVec.ofInt 32 ((n.val : ℤ) - 127 + 1) := by decide +kernel
    exact hb ⟨n8, by omega⟩
  · rw [if_neg (by exact_mod_cast h), if_neg h]; rfl

/-- The exponent lies in the range a 32-bit float's power of two covers. -/
theorem expo_range (a : ℝ) (ha : a < (2 : ℝ) ^ (128 : ℤ)) : -126 ≤ expo a ∧ expo a ≤ 126 := by
  unfold expo
  by_cases h : (2 : ℝ) ^ (-100 : ℤ) < a
  · rw [if_pos h]
    have ha0 : 0 < a := lt_trans (by positivity) h
    have hl : 0 < Real.log 2 := Real.log_pos (by norm_num)
    have hy1 : (2 : ℝ) ^ (-109 : ℤ) < a * cInv := by
      have : (2 : ℝ) ^ (-109 : ℤ) = (2 : ℝ) ^ (-100 : ℤ) * (2 : ℝ) ^ (-9 : ℤ) := by norm_num
      rw [this]; exact mul_lt_mul h cInv_gt.le (by positivity) ha0.le
    have hy2 : a * cInv < (2 : ℝ) ^ (126 : ℤ) := by
      calc a * cInv < (2 : ℝ) ^ (128 : ℤ) * (2 : ℝ) ^ (-8 : ℤ) := mul_lt_mul ha cInv_lt.le cInv_pos (by positivity)
        _ ≤ _ := by norm_num
    have hpos : 0 < a * cInv := lt_trans (by positivity) hy1
    have f1 : (-109 : ℤ) ≤ ⌊Real.log (a * cInv) / Real.log 2⌋ := by
      rw [Int.le_floor, le_div_iff₀ hl]
      have := Real.log_lt_log (by positivity) hy1
      rw [Real.log_zpow] at this
      exact this.le
    have f2 : ⌊Real.log (a * cInv) / Real.log 2⌋ < 126 := by
      rw [Int.floor_lt, div_lt_iff₀ hl]
      have := Real.log_lt_log hpos hy2
      rw [Real.log_zpow] at this
      exact this
    omega
  · rw [if_neg h]; norm_num

/-- Adding the bias to an exponent in range, or to its negation, gives a biased exponent in range. -/
theorem shift_facts : ∀ n : Fin 253, IntOp.addi (BitVec.ofInt 32 ((n.val : ℤ) - 126)) 127#32 = BitVec.ofNat 32 (n.val + 1)
    ∧ IntOp.addi (IntOp.subi 0#32 (BitVec.ofInt 32 ((n.val : ℤ) - 126))) 127#32 = BitVec.ofNat 32 (253 - n.val)
    ∧ (BitVec.ofInt 32 ((n.val : ℤ) - 126)).toInt = (n.val : ℤ) - 126 := by decide +kernel

/-- The kernel's power of two of an exponent in range. -/
theorem pow2_eq (e : ℤ) (h1 : -126 ≤ e) (h2 : e ≤ 126) :
    Ideal.ofBits .f32 (IntOp.shli .vector (IntOp.addi (BitVec.ofInt 32 e) 127#32) 23#32) = (((2 : ℝ) ^ e : ℝ) : EReal) := by
  obtain ⟨n, rfl⟩ : ∃ n : Fin 253, e = (n.val : ℤ) - 126 := ⟨⟨(e + 126).toNat, by omega⟩, by simp; omega⟩
  rw [(shift_facts n).1, ofBits_pow _ (by omega) (by omega)]
  congr 2; push_cast; ring

/-- The kernel's power of two of the negated exponent. -/
theorem pow2_neg_eq (e : ℤ) (h1 : -126 ≤ e) (h2 : e ≤ 126) :
    Ideal.ofBits .f32 (IntOp.shli .vector (IntOp.addi (IntOp.subi 0#32 (BitVec.ofInt 32 e)) 127#32) 23#32) = (((2 : ℝ) ^ (-e) : ℝ) : EReal) := by
  obtain ⟨n, rfl⟩ : ∃ n : Fin 253, e = (n.val : ℤ) - 126 := ⟨⟨(e + 126).toNat, by omega⟩, by simp; omega⟩
  rw [(shift_facts n).2.1, ofBits_pow _ (by omega) (by omega)]
  congr 2; omega

/-- An exponent in range, as a 32-bit integer, keeps its value. -/
theorem toInt_eq (e : ℤ) (h1 : -126 ≤ e) (h2 : e ≤ 126) : (BitVec.ofInt 32 e).toInt = e := by
  obtain ⟨n, rfl⟩ : ∃ n : Fin 253, e = (n.val : ℤ) - 126 := ⟨⟨(e + 126).toNat, by omega⟩, by simp; omega⟩
  exact (shift_facts n).2.2

/-- The reference's exponent, from the logarithm to base two. -/
def refE (L a : EReal) : EReal :=
  if Ideal.ofBits .f32 226492416#32 < a then
    Ideal.liftRound Int.floor (Ideal.div (Ideal.log (a * Ideal.ofBits .f32 991054117#32)) L) + 1
  else 0

/-- On the real numbers the reference's exponent is `expo`. -/
theorem refE_eq (a : ℝ) : refE ((Real.log 2 : ℝ) : EReal) (a : EReal) = ((expo a : ℝ) : EReal) := by
  unfold refE expo
  rw [ofBits_tiny]
  by_cases h : (2 : ℝ) ^ (-100 : ℤ) < a
  · have ha0 : 0 < a := lt_trans (by positivity) h
    have hl : Real.log 2 ≠ 0 := (Real.log_pos (by norm_num)).ne'
    rw [if_pos (by exact_mod_cast h), if_pos h, ofBits_cInv, ← EReal.coe_mul]
    have hlog : Ideal.log ((a * cInv : ℝ) : EReal) = ((Real.log (a * cInv) : ℝ) : EReal) := by
      show (if a * cInv ≤ 0 then (⊥ : EReal) else _) = _
      rw [if_neg (not_le.2 (mul_pos ha0 cInv_pos))]
    rw [hlog]
    have hdiv : Ideal.div ((Real.log (a * cInv) : ℝ) : EReal) ((Real.log 2 : ℝ) : EReal) = ((Real.log (a * cInv) / Real.log 2 : ℝ) : EReal) := by
      unfold Ideal.div
      rw [if_neg (by exact_mod_cast hl), div_eq_mul_inv, EReal.coe_mul, EReal.coe_inv]
    rw [hdiv, Ideal.liftRound_coe]
    push_cast
    rfl
  · rw [if_neg (by exact_mod_cast h), if_neg h]; simp

/-- The power of two of an integer. -/
theorem exp2_eq (e : ℤ) : Ideal.exp2 (((e : ℤ) : ℝ) : EReal) = (((2 : ℝ) ^ e : ℝ) : EReal) := by
  show ((Real.rpow 2 ((e : ℤ) : ℝ) : ℝ) : EReal) = _
  congr 1
  exact Real.rpow_intCast 2 e

/-- The scale that the kernel stores for a group whose largest magnitude is `A`. -/
def scl (A : EReal) : EReal := Ideal.ofBits .f32 (IntOp.shli .vector (IntOp.addi (kexp A) 127#32) 23#32)

/-- The code that the kernel stores for the entry `x` of a group whose largest magnitude is `A`. -/
def code (x A : EReal) : EReal := min (Ideal.ofBits .f32 1138753536#32) (max (Ideal.ofBits .f32 3286237184#32)
  (x * Ideal.ofBits .f32 (IntOp.shli .vector (IntOp.addi (IntOp.subi 0#32 (kexp A)) 127#32) 23#32)))

end Cert.Val
-- ==== Proof.QuantBlock.lean ====
module

public import proofs.«01_k».proof.Proof.Gen.KernelIdeal.Frame
public import Idealize.ShloMosaic.Lib.Pointwise
public import Idealize.ShloMosaic.Lib.Pipeline.ValueKit
public import proofs.«01_k».proof.Proof.Exponent

@[expose] public section

set_option maxRecDepth 16384

noncomputable section

namespace Cert.KernelIdeal.Val

open Idealize.ShloMosaic Idealize.ShloMosaic.TcCoe Idealize.SL.Sem
open Cert.KernelIdeal Cert.KernelIdeal.Gen
open Cert.Val

/-- One step of the search for an exponent, on a whole vector. -/
def sv {s : Shape} (y : FVec Ideal s .f32) (b : IVec s 32) (st : BitVec 32) : IVec s 32 :=
  select (cmpf .oge y (bitcastToFloat .f32 (shli (addi b (broadcast s st)) (broadcast s 23#32)))) (addi b (broadcast s st)) b

/-- One step of the search on a vector is one step on each entry. -/
theorem sv_at {s : Shape} (y : FVec Ideal s .f32) (b : IVec s 32) (st : BitVec 32) (i : s.Idx) : sv y b st i = srch (y i) (b i) st := by
  unfold sv
  pointwise [srch]

/-- The kernel's exponents of a vector of group maxima. -/
def kv {s : Shape} (a : FVec Ideal s .f32) : IVec s 32 :=
  have y := mulf a (broadcast s (Scalar.ofBits .f32 991054117#32))
  select (cmpf .ogt a (broadcast s (Scalar.ofBits .f32 226492416#32)))
    (subi (sv y (sv y (sv y (sv y (sv y (sv y (sv y (sv y (broadcast s 0#32) 128#32) 64#32) 32#32) 16#32) 8#32) 4#32) 2#32) 1#32) (broadcast s 126#32)) (broadcast s 0#32)

/-- The kernel's exponents of a vector are its exponent of each entry. -/
theorem kv_at {s : Shape} (a : FVec Ideal s .f32) (i : s.Idx) : kv a i = kexp (a i) := by
  unfold kv kexp
  have hy : mulf a (broadcast s (Scalar.ofBits .f32 991054117#32)) i = a i * Ideal.ofBits .f32 991054117#32 := by
    pointwise
  generalize mulf a (broadcast s (Scalar.ofBits .f32 991054117#32)) = y at *
  have hD : (sv y (sv y (sv y (sv y (sv y (sv y (sv y (sv y (broadcast s 0#32) 128#32) 64#32) 32#32) 16#32) 8#32) 4#32) 2#32) 1#32) i = (srch (y i) (srch (y i) (srch (y i) (srch (y i) (srch (y i) (srch (y i) (srch (y i) (srch (y i) 0#32 128#32) 64#32) 32#32) 16#32) 8#32) 4#32) 2#32) 1#32) := by
    simp only [sv_at]
    rfl
  generalize (sv y (sv y (sv y (sv y (sv y (sv y (sv y (sv y (broadcast s 0#32) 128#32) 64#32) 32#32) 16#32) 8#32) 4#32) 2#32) 1#32) = D at *
  rw [← hy, ← hD]
  pointwise

section
variable (x0 : Vec Ideal S1x1024x2048 .bf16) (x1 : Vec Ideal S1x1024x256 .bf16) (x2 : Vec Ideal S1x1024x256 .bf16)

/-- The exponents computed for the queries are `kv` of the groups' maxima. -/
theorem expq : k0_pay19 (k0_pay51 x0 x1 x2) (k0_pay52 x0 x1 x2) (k0_pay56 x0 x1 x2) (k0_pay57 x0 x1 x2) = kv (k0_pay51 x0 x1 x2) := by
  rfl

/-- The exponents computed for the keys are `kv` of the groups' maxima. -/
theorem expk : k0_pay28 (k0_pay58 x0 x1 x2) (k0_pay59 x0 x1 x2) (k0_pay60 x0 x1 x2) (k0_pay61 x0 x1 x2) (k0_pay62 x0 x1 x2) = kv (k0_pay58 x0 x1 x2) := by
  rfl

/-- The exponents computed for the values are `kv` of the groups' maxima. -/
theorem expv : k0_pay37 (k0_pay64 x0 x1 x2) (k0_pay65 x0 x1 x2) (k0_pay66 x0 x1 x2) 1#32 = kv (k0_pay64 x0 x1 x2) := by
  rfl
/-- The largest magnitude in a group of 128 rows and 128 columns. -/
def amaxOf {C : ℕ} (x : FVec Ideal ⟨3, ![1, 1024, C]⟩ .bf16) (g : Fin 8) (h : ℕ) (hh : h * 128 + 128 ≤ C) : EReal :=
  Finset.fold max (Ideal.ofBits FTy.f32 4286578688#32) (fun b : Fin 128 => Finset.fold max (Ideal.ofBits FTy.f32 4286578688#32)
    (fun r : Fin 128 => (fun v : EReal => max v (-v)) (x (ix3 0 ⟨g.val * 128 + r.val, by omega⟩ ⟨h * 128 + b.val, by omega⟩))) Finset.univ) Finset.univ

/-- A column's largest magnitude over a block of 128 rows. -/
theorem pay3_at (x : Vec Ideal S1x1024x2048 .bf16) (g : Fin 8) (l : Fin 2048) : k0_pay3 x (ix2 g l) =
    Finset.fold max (Ideal.ofBits FTy.f32 4286578688#32) (fun r : Fin 128 => (fun v : EReal => max v (-v)) (x (ix3 0 ⟨g.val * 128 + r.val, by omega⟩ l))) Finset.univ := by
  pointwise [k0_pay3, k0_pay2]
  rfl

/-- A choice whose two branches have one value has that value. -/
theorem dite_eq_of {α : Sort*} {p : Prop} [Decidable p] {v : α} (t : p → α) (e : ¬p → α) (h1 : ∀ h, t h = v) (h2 : ∀ h, e h = v) : dite p t e = v := by
  split
  · exact h1 _
  · exact h2 _

/-- The maximum over the first head's columns, by the column's own head. -/
theorem foldcol0 (D : FVec Ideal S8x2048 .f32) (g : Fin 8) (l : Fin 2048) (h : l.val / 128 * 128 = 0) :
    Finset.fold max (Ideal.ofBits FTy.f32 4286578688#32) (fun x : Fin 128 => D (ix2 g ⟨x.val, by omega⟩)) Finset.univ =
    Finset.fold max (Ideal.ofBits FTy.f32 4286578688#32) (fun b : Fin 128 => D (ix2 g ⟨l.val / 128 * 128 + b.val, by omega⟩)) Finset.univ := by
  simp only [h, Nat.zero_add]

/-- The maximum over one head's columns, by the column's own head. -/
theorem foldcol (D : FVec Ideal S8x2048 .f32) (g : Fin 8) (l : Fin 2048) (o : ℕ) (ho : o + 128 ≤ 2048) (h : l.val / 128 * 128 = o) :
    Finset.fold max (Ideal.ofBits FTy.f32 4286578688#32) (fun x : Fin 128 => D (ix2 g ⟨o + x.val, by omega⟩)) Finset.univ =
    Finset.fold max (Ideal.ofBits FTy.f32 4286578688#32) (fun b : Fin 128 => D (ix2 g ⟨l.val / 128 * 128 + b.val, by omega⟩)) Finset.univ := by
  subst h
  rfl

/-- Every lane of a query head holds the maximum over the head's columns. -/
theorem aq_fold (g : Fin 8) (l : Fin 2048) : k0_pay51 x0 x1 x2 (ix2 g l) = Finset.fold max (Ideal.ofBits FTy.f32 4286578688#32)
    (fun b : Fin 128 => k0_pay3 (View.ld x0 r0_0) (ix2 g ⟨l.val / 128 * 128 + b.val, by omega⟩)) Finset.univ := by
  unfold k0_pay51 k0_pay42 k0_pay43 k0_pay44 k0_pay45 k0_pay46 k0_pay47 k0_pay48 k0_pay49 k0_pay50
  unfold k0_pay12 k0_pay4 k0_pay5 k0_pay6 k0_pay7 k0_pay8 k0_pay9 k0_pay10 k0_pay11
  generalize k0_pay3 (View.ld x0 r0_0) = D
  pointwise
  refine dite_eq_of _ _ (fun h => foldcol0 D g l (by omega)) fun h => ?_
  iterate 14 refine dite_eq_of _ _ (fun h => foldcol D g l _ (by omega) (by omega)) fun h => ?_
  exact foldcol D g l _ (by omega) (by omega)

/-- The maxima computed for the queries are the largest magnitudes of their groups. -/
theorem aq_at (g : Fin 8) (l : Fin 2048) : k0_pay51 x0 x1 x2 (ix2 g l) = amaxOf (C := 2048) x0 g (l.val / 128) (by omega) := by
  rw [aq_fold]
  unfold amaxOf
  refine congrArg (fun f => Finset.fold max _ f Finset.univ) (funext fun b => ?_)
  rw [pay3_at]
  pointwise

/-- The maxima computed for the keys are the largest magnitudes of their groups. -/
theorem ak_fold (g : Fin 8) (l : Fin 256) : k0_pay58 x0 x1 x2 (ix2 g l) = amaxOf (C := 256) x1 g (l.val / 128) (by omega) := by
  unfold k0_pay58 k0_pay23 k0_pay22 amaxOf
  pointwise
  refine dite_eq_of _ _ (fun h => ?_) fun h => ?_
  · have e : l.val / 128 = 0 := by omega
    simp only [e, Nat.zero_mul, Nat.zero_add]
    rfl
  · have e : l.val / 128 = 1 := by omega
    simp only [e]
    rfl

/-- The maxima computed for the values are the largest magnitudes of their groups. -/
theorem av_fold (g : Fin 8) (l : Fin 256) : k0_pay64 x0 x1 x2 (ix2 g l) = amaxOf (C := 256) x2 g (l.val / 128) (by omega) := by
  unfold k0_pay64 k0_pay32 k0_pay31 amaxOf
  pointwise
  refine dite_eq_of _ _ (fun h => ?_) fun h => ?_
  · have e : l.val / 128 = 0 := by omega
    simp only [e, Nat.zero_mul, Nat.zero_add]
    rfl
  · have e : l.val / 128 = 1 := by omega
    simp only [e]
    rfl

/-- The block of queries' codes that a grid point stores. -/
theorem out0_3_at (r : Fin 1024) (l : Fin 2048) : out0_3 (F := Ideal) x0 x1 x2 (ix3 0 r l) = code (x0 (ix3 0 r l)) (amaxOf (C := 2048) x0 ⟨r.val / 128, by omega⟩ (l.val / 128) (by omega)) := by
  unfold out0_3
  rw [View.canon_cons_unit_lit' _ _ _ (by decide)]
  unfold k0_pay21
  rw [expq]
  have hE := fun g l => (kv_at (k0_pay51 x0 x1 x2) (ix2 g l)).trans (congrArg kexp (aq_at x0 x1 x2 g l))
  generalize kv (k0_pay51 x0 x1 x2) = E at *
  pointwise [k0_pay2, hE, code]

/-- The block of queries' scales that a grid point stores. -/
theorem out0_4_at (g : Fin 8) (l : Fin 2048) : out0_4 (F := Ideal) x0 x1 x2 (ix3 0 g l) = scl (amaxOf (C := 2048) x0 g (l.val / 128) (by omega)) := by
  unfold out0_4
  rw [View.canon_cons_unit_lit' _ _ _ (by decide)]
  unfold k0_pay20
  rw [expq]
  have hE := fun g l => (kv_at (k0_pay51 x0 x1 x2) (ix2 g l)).trans (congrArg kexp (aq_at x0 x1 x2 g l))
  generalize kv (k0_pay51 x0 x1 x2) = E at *
  pointwise [scl, hE, scl]

/-- The block of keys' codes that a grid point stores. -/
theorem out0_5_at (r : Fin 1024) (l : Fin 256) : out0_5 (F := Ideal) x0 x1 x2 (ix3 0 r l) = code (x1 (ix3 0 r l)) (amaxOf (C := 256) x1 ⟨r.val / 128, by omega⟩ (l.val / 128) (by omega)) := by
  unfold out0_5
  rw [View.canon_cons_unit_lit' _ _ _ (by decide)]
  unfold k0_pay30
  rw [expk]
  have hE := fun g l => (kv_at (k0_pay58 x0 x1 x2) (ix2 g l)).trans (congrArg kexp (ak_fold x0 x1 x2 g l))
  generalize kv (k0_pay58 x0 x1 x2) = E at *
  pointwise [k0_pay22, hE, code]

/-- The block of keys' scales that a grid point stores. -/
theorem out0_6_at (g : Fin 8) (l : Fin 256) : out0_6 (F := Ideal) x0 x1 x2 (ix3 0 g l) = scl (amaxOf (C := 256) x1 g (l.val / 128) (by omega)) := by
  unfold out0_6
  rw [View.canon_cons_unit_lit' _ _ _ (by decide)]
  unfold k0_pay29
  rw [expk]
  have hE := fun g l => (kv_at (k0_pay58 x0 x1 x2) (ix2 g l)).trans (congrArg kexp (ak_fold x0 x1 x2 g l))
  generalize kv (k0_pay58 x0 x1 x2) = E at *
  pointwise [scl, hE, scl]

/-- The block of values' codes that a grid point stores. -/
theorem out0_7_at (r : Fin 1024) (l : Fin 256) : out0_7 (F := Ideal) x0 x1 x2 (ix3 0 r l) = code (x2 (ix3 0 r l)) (amaxOf (C := 256) x2 ⟨r.val / 128, by omega⟩ (l.val / 128) (by omega)) := by
  unfold out0_7
  rw [View.canon_cons_unit_lit' _ _ _ (by decide)]
  unfold k0_pay40 k0_pay39
  rw [expv]
  have hE := fun g l => (kv_at (k0_pay64 x0 x1 x2) (ix2 g l)).trans (congrArg kexp (av_fold x0 x1 x2 g l))
  generalize kv (k0_pay64 x0 x1 x2) = E at *
  pointwise [k0_pay31, k0_pay63, hE, code]

/-- The block of values' scales that a grid point stores. -/
theorem out0_8_at (g : Fin 8) (l : Fin 256) : out0_8 (F := Ideal) x0 x1 x2 (ix3 0 g l) = scl (amaxOf (C := 256) x2 g (l.val / 128) (by omega)) := by
  unfold out0_8
  rw [View.canon_cons_unit_lit' _ _ _ (by decide)]
  unfold k0_pay38
  rw [expv]
  have hE := fun g l => (kv_at (k0_pay64 x0 x1 x2) (ix2 g l)).trans (congrArg kexp (av_fold x0 x1 x2 g l))
  generalize kv (k0_pay64 x0 x1 x2) = E at *
  pointwise [scl, hE, scl]

/-- The block of values' codes, transposed, that a grid point stores. -/
theorem out0_9_at (l : Fin 256) (r : Fin 1024) : out0_9 (F := Ideal) x0 x1 x2 (ix3 0 l r) = code (x2 (ix3 0 r l)) (amaxOf (C := 256) x2 ⟨r.val / 128, by omega⟩ (l.val / 128) (by omega)) := by
  unfold out0_9
  rw [View.canon_cons_unit_lit' _ _ _ (by decide)]
  unfold k0_pay41 k0_pay39
  rw [expv]
  have hE := fun g l => (kv_at (k0_pay64 x0 x1 x2) (ix2 g l)).trans (congrArg kexp (av_fold x0 x1 x2 g l))
  generalize kv (k0_pay64 x0 x1 x2) = E at *
  pointwise [k0_pay1, k0_pay31, k0_pay63, hE, code]

end
end Cert.KernelIdeal.Val
-- ==== Proof.QuantArrays.lean ====
module

public import proofs.«01_k».proof.Proof.QuantBlock

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen
open Cert.Val

/-- Where each window of the quantising call sits at each grid point. -/
theorem idx0 : ∀ t : Fin cfg0.N, win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, (grid0.coords t 1).val, 0]
    ∧ win0_4.index t = ![(grid0.coords t 0).val, (grid0.coords t 1).val, 0] ∧ win0_5.index t = ![(grid0.coords t 0).val, (grid0.coords t 1).val, 0]
    ∧ win0_6.index t = ![(grid0.coords t 0).val, (grid0.coords t 1).val, 0] ∧ win0_7.index t = ![(grid0.coords t 0).val, (grid0.coords t 1).val, 0]
    ∧ win0_8.index t = ![(grid0.coords t 0).val, (grid0.coords t 1).val, 0] ∧ win0_9.index t = ![(grid0.coords t 0).val, 0, (grid0.coords t 1).val] :=
  (by decide +kernel : ∀ t : Fin grid0.N, _)

/-- The largest magnitude in a group of 128 rows and 128 columns of a whole array. -/
def kmax {C : ℕ} (x : FVec Ideal ⟨3, ![8, 8192, C]⟩ .bf16) (n : Fin 8) (g : Fin 64) (h : ℕ) (hh : h * 128 + 128 ≤ C) : EReal :=
  Finset.fold max (Ideal.ofBits FTy.f32 4286578688#32) (fun b : Fin 128 => Finset.fold max (Ideal.ofBits FTy.f32 4286578688#32)
    (fun r : Fin 128 => (fun v : EReal => max v (-v)) (x (ix3 n ⟨g.val * 128 + r.val, by omega⟩ ⟨h * 128 + b.val, by omega⟩))) Finset.univ) Finset.univ

/-- The queries' codes. -/
def Qc (X : FVec Ideal S8x8192x2048 .bf16) : FVec Ideal S8x8192x2048 .fp8e4m3 := fun j =>
  code (X j) (kmax (C := 2048) X (j 0) ⟨(j 1).val / 128, by have := (j 1).isLt; change _ < 8192 at this; omega⟩ ((j 2).val / 128) (by have := (j 2).isLt; change _ < 2048 at this; omega))

/-- The queries' scales, one per lane. -/
def Qs (X : FVec Ideal S8x8192x2048 .bf16) : FVec Ideal S8x64x2048 .f32 := fun j =>
  scl (kmax (C := 2048) X (j 0) (j 1) ((j 2).val / 128) (by have := (j 2).isLt; change _ < 2048 at this; omega))

/-- The codes of the keys, or of the values. -/
def Kc (X : FVec Ideal S8x8192x256 .bf16) : FVec Ideal S8x8192x256 .fp8e4m3 := fun j =>
  code (X j) (kmax (C := 256) X (j 0) ⟨(j 1).val / 128, by have := (j 1).isLt; change _ < 8192 at this; omega⟩ ((j 2).val / 128) (by have := (j 2).isLt; change _ < 256 at this; omega))

/-- The scales of the keys, or of the values, one per lane. -/
def Ks (X : FVec Ideal S8x8192x256 .bf16) : FVec Ideal S8x64x256 .f32 := fun j =>
  scl (kmax (C := 256) X (j 0) (j 1) ((j 2).val / 128) (by have := (j 2).isLt; change _ < 256 at this; omega))

/-- The values' codes, transposed. -/
def Vt (X : FVec Ideal S8x8192x256 .bf16) : FVec Ideal S8x256x8192 .fp8e4m3 := fun j =>
  code (X (ix3 (j 0) (j 2) (j 1))) (kmax (C := 256) X (j 0) ⟨(j 2).val / 128, by have := (j 2).isLt; change _ < 8192 at this; omega⟩ ((j 1).val / 128) (by have := (j 1).isLt; change _ < 256 at this; omega))

section
variable (V : (c : Dev nD) → (b : Ref sig .tc) → Buf (Elt Ideal) ((c : Thread nD τ).loc b))

/-- The largest magnitude of a group of a block is that of the group of the whole array that holds the same entries. -/
theorem amax_congr {C C' : ℕ} (x : FVec Ideal ⟨3, ![1, 1024, C]⟩ .bf16) (X : FVec Ideal ⟨3, ![8, 8192, C']⟩ .bf16) (g : Fin 8) (h : ℕ) (hh : h * 128 + 128 ≤ C)
    (n : Fin 8) (g' : Fin 64) (h' : ℕ) (hh' : h' * 128 + 128 ≤ C')
    (H : ∀ r b : Fin 128, x (ix3 0 ⟨g.val * 128 + r.val, by omega⟩ ⟨h * 128 + b.val, by omega⟩) = X (ix3 n ⟨g'.val * 128 + r.val, by omega⟩ ⟨h' * 128 + b.val, by omega⟩)) :
    amaxOf x g h hh = kmax X n g' h' hh' := by
  unfold amaxOf kmax
  simp only [H]

/-- After the whole grid this output array of the quantising call holds the queries' codes. -/
theorem final0_3 (c : Dev nD) : (dat0 V c).arrAt 3 cfg0.N = Qc (V c main_arg0) := by
  refine (dat0 V c).arrAt_eq_of_covers 3 _ (by decide +kernel) fun t _ y => ?_
  blk_simp
  rw [after0_3]
  idx_vars y
  obtain rfl : y0 = 0 := Subsingleton.elim _ _
  refine (out0_3_at _ _ _ y1 y2).trans ?_
  unfold Qc
  refine congrArg₂ code ?_ (amax_congr _ _ _ _ _ _ _ _ _ fun r b => ?_)
  · blk_ext [iblk0, idx0 t]
  · blk_ext [iblk0, idx0 t]

/-- After the whole grid this output array of the quantising call holds the queries' scales. -/
theorem final0_4 (c : Dev nD) : (dat0 V c).arrAt 4 cfg0.N = Qs (V c main_arg0) := by
  refine (dat0 V c).arrAt_eq_of_covers 4 _ (by decide +kernel) fun t _ y => ?_
  blk_simp
  rw [after0_4]
  idx_vars y
  obtain rfl : y0 = 0 := Subsingleton.elim _ _
  refine (out0_4_at _ _ _ y1 y2).trans ?_
  unfold Qs
  refine congrArg scl (amax_congr _ _ _ _ _ _ _ _ _ fun r b => ?_)
  blk_ext [iblk0, idx0 t]

/-- After the whole grid this output array of the quantising call holds the keys' codes. -/
theorem final0_5 (c : Dev nD) : (dat0 V c).arrAt 5 cfg0.N = Kc (V c main_arg1) := by
  refine (dat0 V c).arrAt_eq_of_covers 5 _ (by decide +kernel) fun t _ y => ?_
  blk_simp
  rw [after0_5]
  idx_vars y
  obtain rfl : y0 = 0 := Subsingleton.elim _ _
  refine (out0_5_at _ _ _ y1 y2).trans ?_
  unfold Kc
  refine congrArg₂ code ?_ (amax_congr _ _ _ _ _ _ _ _ _ fun r b => ?_)
  · blk_ext [iblk0, idx0 t]
  · blk_ext [iblk0, idx0 t]

/-- After the whole grid this output array of the quantising call holds the keys' scales. -/
theorem final0_6 (c : Dev nD) : (dat0 V c).arrAt 6 cfg0.N = Ks (V c main_arg1) := by
  refine (dat0 V c).arrAt_eq_of_covers 6 _ (by decide +kernel) fun t _ y => ?_
  blk_simp
  rw [after0_6]
  idx_vars y
  obtain rfl : y0 = 0 := Subsingleton.elim _ _
  refine (out0_6_at _ _ _ y1 y2).trans ?_
  unfold Ks
  refine congrArg scl (amax_congr _ _ _ _ _ _ _ _ _ fun r b => ?_)
  blk_ext [iblk0, idx0 t]

/-- After the whole grid this output array of the quantising call holds the values' codes. -/
theorem final0_7 (c : Dev nD) : (dat0 V c).arrAt 7 cfg0.N = Kc (V c main_arg2) := by
  refine (dat0 V c).arrAt_eq_of_covers 7 _ (by decide +kernel) fun t _ y => ?_
  blk_simp
  rw [after0_7]
  idx_vars y
  obtain rfl : y0 = 0 := Subsingleton.elim _ _
  refine (out0_7_at _ _ _ y1 y2).trans ?_
  unfold Kc
  refine congrArg₂ code ?_ (amax_congr _ _ _ _ _ _ _ _ _ fun r b => ?_)
  · blk_ext [iblk0, idx0 t]
  · blk_ext [iblk0, idx0 t]

/-- After the whole grid this output array of the quantising call holds the values' scales. -/
theorem final0_8 (c : Dev nD) : (dat0 V c).arrAt 8 cfg0.N = Ks (V c main_arg2) := by
  refine (dat0 V c).arrAt_eq_of_covers 8 _ (by decide +kernel) fun t _ y => ?_
  blk_simp
  rw [after0_8]
  idx_vars y
  obtain rfl : y0 = 0 := Subsingleton.elim _ _
  refine (out0_8_at _ _ _ y1 y2).trans ?_
  unfold Ks
  refine congrArg scl (amax_congr _ _ _ _ _ _ _ _ _ fun r b => ?_)
  blk_ext [iblk0, idx0 t]

/-- After the whole grid this output array of the quantising call holds the values' codes, transposed. -/
theorem final0_9 (c : Dev nD) : (dat0 V c).arrAt 9 cfg0.N = Vt (V c main_arg2) := by
  refine (dat0 V c).arrAt_eq_of_covers 9 _ (by decide +kernel) fun t _ y => ?_
  blk_simp
  rw [after0_9]
  idx_vars y
  obtain rfl : y0 = 0 := Subsingleton.elim _ _
  refine (out0_9_at _ _ _ y1 y2).trans ?_
  unfold Vt
  refine congrArg₂ code ?_ (amax_congr _ _ _ _ _ _ _ _ _ fun r b => ?_)
  · blk_ext [iblk0, idx0 t]
  · blk_ext [iblk0, idx0 t]

end
end Cert.KernelIdeal.Val

end
-- ==== Proof.RefQuant.lean ====
module

public import proofs.«01_k».proof.Proof.Gen.ReferenceIdeal.Frame
public import Idealize.ShloMosaic.Lib.Pointwise
public import Idealize.ShloMosaic.Lib.Pipeline.ValueKit
public import proofs.«01_k».proof.Proof.Exponent

@[expose] public section

set_option maxRecDepth 16384

noncomputable section

namespace Cert.ReferenceIdeal.Val

open Idealize.ShloMosaic Idealize.ShloMosaic.TcCoe Idealize.SL.Sem
open Cert.ReferenceIdeal Cert.ReferenceIdeal.Gen
open Cert.Val

/-- The value of the constant `ln2`. -/
def ln2 : EReal := Named.named (F := Ideal) κ "ln2" (φ := .f32) 0x3F317218#32

/-- The constant `ln2` is the natural logarithm of two. -/
theorem ln2_eq : ln2 = ((Real.log 2 : ℝ) : EReal) := IdealRules.named_const.ideal_named_scalar _ _ _ _ rfl

/-- The largest magnitude in a group of 128 rows and 128 columns. -/
def rmax {C : ℕ} (x : FVec Ideal ⟨3, ![8, 8192, C]⟩ .bf16) (n : Fin 8) (g : Fin 64) (h : ℕ) (hh : h * 128 + 128 ≤ C) : EReal :=
  Finset.fold max (Ideal.ofBits FTy.f32 4286578688#32) (fun r : Fin 128 => Finset.fold max (Ideal.ofBits FTy.f32 4286578688#32)
    (fun b : Fin 128 => (fun v : EReal => max v (-v)) (x (ix3 n ⟨g.val * 128 + r.val, by omega⟩ ⟨h * 128 + b.val, by omega⟩))) Finset.univ) Finset.univ

/-- The code of `x` in a group whose exponent is `E`. -/
def rcode (x E : EReal) : EReal := min (Ideal.ofBits .f32 1138753536#32) (max (Ideal.ofBits .f32 3286237184#32) (x * Ideal.exp2 (0 - E)))

/-- The reference's exponents of a vector of group maxima. -/
def ev {s : Shape} (a : FVec Ideal s .f32) : FVec Ideal s .f32 :=
  select (cmpf .ogt a (broadcast s (Scalar.ofBits .f32 0x0D800000#32)))
    (addf (floor (divf (log (mulf a (broadcast s (Scalar.ofBits .f32 0x3B124925#32)))) (broadcast s (Named.named κ "ln2" 0x3F317218#32))))
      (broadcast s (Scalar.ofBits .f32 0x3F800000#32))) (broadcast s (Scalar.ofBits .f32 0x00000000#32))

/-- The reference's exponents of a vector are its exponent of each entry. -/
theorem ev_at {s : Shape} (a : FVec Ideal s .f32) (i : s.Idx) : ev a i = refE ln2 (a i) := by
  unfold ev refE ln2
  pointwise

/-- The codes of a vector, from the exponent of each entry's group. -/
def cv {s : Shape} (x e : FVec Ideal s .f32) : FVec Ideal s .f32 :=
  minimumf (broadcast s (Scalar.ofBits .f32 0x43E00000#32)) (maximumf (broadcast s (Scalar.ofBits .f32 0xC3E00000#32)) (mulf x e))

/-- The codes of a vector, entry by entry. -/
theorem cv_at {s : Shape} (x e : FVec Ideal s .f32) (i : s.Idx) : cv x e i =
    min (Ideal.ofBits .f32 1138753536#32) (max (Ideal.ofBits .f32 3286237184#32) (x i * e i)) := by
  unfold cv
  pointwise

/-- The magnitudes' maxima over the groups of the queries. -/
def amax_q (x : FVec Ideal S8x8192x2048 .bf16) : FVec Ideal S8x64x1x16x1 .f32 :=
  shapeCast S8x64x1x16x1 (multiReduction .maximumf [2] S8x64x16x1 (shapeCast S8x64x128x16x1 (multiReduction .maximumf [4] S8x64x128x16 (absf (k0_pay2 (F := Ideal) x)) 0xFF800000#32 reduces_S8x64x128x16x128_S8x64x128x16 (.inl rfl) rfl) shapeCasts_S8x64x128x16_S8x64x128x16x1) 0xFF800000#32 reduces_S8x64x128x16x1_S8x64x16x1 (.inl rfl) rfl) shapeCasts_S8x64x16x1_S8x64x1x16x1

/-- A magnitude of the queries, in the grouped layout. -/
theorem abs_q (x : FVec Ideal S8x8192x2048 .bf16) (n : Fin 8) (g : Fin 64) (r : Fin 128) (h : Fin 16) (b : Fin 128) :
    absf (k0_pay2 (F := Ideal) x) (ix5 n g r h b) = (fun v : EReal => max v (-v)) (x (ix3 n ⟨g.val * 128 + r.val, by omega⟩ ⟨h.val * 128 + b.val, by omega⟩)) := by
  unfold k0_pay2
  pointwise
  rfl

/-- The queries' group maxima, group by group. -/
theorem amax_q_at (x : FVec Ideal S8x8192x2048 .bf16) (n : Fin 8) (g : Fin 64) (h : Fin 16) :
    amax_q x (ix5 n g 0 h 0) = rmax (C := 2048) x n g h.val (by omega) := by
  have hA := abs_q x
  unfold amax_q
  generalize absf (k0_pay2 (F := Ideal) x) = D at *
  unfold rmax
  pointwise [hA]

/-- The queries' exponents are those of the group maxima. -/
theorem pay3_eq (x : FVec Ideal S8x8192x2048 .bf16) : k0_pay3 (F := Ideal) x = ev (amax_q x) := rfl

/-- The queries' exponents, group by group. -/
theorem exp_q (x : FVec Ideal S8x8192x2048 .bf16) (n : Fin 8) (g : Fin 64) (h : Fin 16) :
    k0_pay3 (F := Ideal) x (ix5 n g 0 h 0) = refE ln2 (rmax (C := 2048) x n g h.val (by omega)) := by
  rw [pay3_eq, ev_at, amax_q_at]

/-- The queries' codes, entry by entry. -/
theorem code_q (x : FVec Ideal S8x8192x2048 .bf16) (n : Fin 8) (i : Fin 8192) (h : Fin 16) (d : Fin 128) :
    k0_pay4 (F := Ideal) x (ix4 n i h d) = rcode (x (ix3 n i ⟨h.val * 128 + d.val, by omega⟩)) (refE ln2 (rmax (C := 2048) x n ⟨i.val / 128, by omega⟩ h.val (by omega))) := by
  have hE := exp_q x
  unfold k0_pay4 rcode
  generalize k0_pay3 (F := Ideal) x = E at *
  pointwise [k0_pay2, hE]
  rfl

/-- The queries' scales, group by group. -/
theorem scale_q (x : FVec Ideal S8x8192x2048 .bf16) (n : Fin 8) (g : Fin 64) (h : Fin 16) :
    k0_pay5 (F := Ideal) x (ix3 n g h) = Ideal.exp2 (refE ln2 (rmax (C := 2048) x n g h.val (by omega))) := by
  have hE := exp_q x
  unfold k0_pay5
  generalize k0_pay3 (F := Ideal) x = E at *
  pointwise [hE]
  try rfl

/-- The magnitudes' maxima over the groups of the keys. -/
def amax_k (x : FVec Ideal S8x8192x256 .bf16) : FVec Ideal S8x64x1x2x1 .f32 :=
  shapeCast S8x64x1x2x1 (multiReduction .maximumf [2] S8x64x2x1 (shapeCast S8x64x128x2x1 (multiReduction .maximumf [4] S8x64x128x2 (absf (k0_pay6 (F := Ideal) x)) 0xFF800000#32 reduces_S8x64x128x2x128_S8x64x128x2 (.inl rfl) rfl) shapeCasts_S8x64x128x2_S8x64x128x2x1) 0xFF800000#32 reduces_S8x64x128x2x1_S8x64x2x1 (.inl rfl) rfl) shapeCasts_S8x64x2x1_S8x64x1x2x1

/-- A magnitude of the keys, in the grouped layout. -/
theorem abs_k (x : FVec Ideal S8x8192x256 .bf16) (n : Fin 8) (g : Fin 64) (r : Fin 128) (h : Fin 2) (b : Fin 128) :
    absf (k0_pay6 (F := Ideal) x) (ix5 n g r h b) = (fun v : EReal => max v (-v)) (x (ix3 n ⟨g.val * 128 + r.val, by omega⟩ ⟨h.val * 128 + b.val, by omega⟩)) := by
  unfold k0_pay6
  pointwise
  rfl

/-- The keys' group maxima, group by group. -/
theorem amax_k_at (x : FVec Ideal S8x8192x256 .bf16) (n : Fin 8) (g : Fin 64) (h : Fin 2) :
    amax_k x (ix5 n g 0 h 0) = rmax (C := 256) x n g h.val (by omega) := by
  have hA := abs_k x
  unfold amax_k
  generalize absf (k0_pay6 (F := Ideal) x) = D at *
  unfold rmax
  pointwise [hA]

/-- The keys' exponents are those of the group maxima. -/
theorem pay8_eq (x : FVec Ideal S8x8192x256 .bf16) : k0_pay8 (F := Ideal) (k0_pay7 (F := Ideal) x) (Scalar.ofBits .f32 0x3B124925#32) = ev (amax_k x) := rfl

/-- The keys' exponents, group by group. -/
theorem exp_k (x : FVec Ideal S8x8192x256 .bf16) (n : Fin 8) (g : Fin 64) (h : Fin 2) :
    k0_pay8 (F := Ideal) (k0_pay7 (F := Ideal) x) (Scalar.ofBits .f32 0x3B124925#32) (ix5 n g 0 h 0) = refE ln2 (rmax (C := 256) x n g h.val (by omega)) := by
  rw [pay8_eq, ev_at, amax_k_at]

/-- The keys' codes, entry by entry. -/
theorem code_k (x : FVec Ideal S8x8192x256 .bf16) (n : Fin 8) (i : Fin 8192) (h : Fin 2) (d : Fin 128) :
    k0_pay9 (F := Ideal) (k0_pay6 (F := Ideal) x) (k0_pay7 (F := Ideal) x) (Scalar.ofBits .f32 0x3B124925#32) (ix4 n i h d) = rcode (x (ix3 n i ⟨h.val * 128 + d.val, by omega⟩)) (refE ln2 (rmax (C := 256) x n ⟨i.val / 128, by omega⟩ h.val (by omega))) := by
  have hE := exp_k x
  unfold k0_pay9 rcode
  generalize k0_pay8 (F := Ideal) (k0_pay7 (F := Ideal) x) (Scalar.ofBits .f32 0x3B124925#32) = E at *
  pointwise [k0_pay6, hE]
  rfl

/-- The keys' scales, group by group. -/
theorem scale_k (x : FVec Ideal S8x8192x256 .bf16) (n : Fin 8) (g : Fin 64) (h : Fin 2) :
    k0_pay10 (F := Ideal) (k0_pay7 (F := Ideal) x) (Scalar.ofBits .f32 0x3B124925#32) (ix3 n g h) = Ideal.exp2 (refE ln2 (rmax (C := 256) x n g h.val (by omega))) := by
  have hE := exp_k x
  unfold k0_pay10
  generalize k0_pay8 (F := Ideal) (k0_pay7 (F := Ideal) x) (Scalar.ofBits .f32 0x3B124925#32) = E at *
  pointwise [hE]
  try rfl

/-- The values' codes are computed as the keys' are. -/
theorem codes_v (x : FVec Ideal S8x8192x256 .bf16) : k0_pay16 (F := Ideal) (k0_pay11 (F := Ideal) x) (k0_pay13 (F := Ideal) x) (k0_pay14 (F := Ideal) x) (Scalar.ofBits .f32 0x00000000#32)
    = k0_pay9 (F := Ideal) (k0_pay6 (F := Ideal) x) (k0_pay7 (F := Ideal) x) (Scalar.ofBits .f32 0x3B124925#32) := rfl

/-- The values' scales are computed as the keys' are. -/
theorem scales_v (x : FVec Ideal S8x8192x256 .bf16) : k0_pay17 (F := Ideal) (k0_pay13 (F := Ideal) x) (k0_pay14 (F := Ideal) x) (Scalar.ofBits .f32 0x00000000#32)
    = k0_pay10 (F := Ideal) (k0_pay7 (F := Ideal) x) (Scalar.ofBits .f32 0x3B124925#32) := rfl

end Cert.ReferenceIdeal.Val

end
-- ==== Proof.Folds.lean ====
module

public import proofs.«01_k».proof.Proof.Exponent

@[expose] public section

noncomputable section

namespace Cert.Val

open Idealize.ShloMosaic

/-- The word from which a maximum starts is minus infinity. -/
theorem bits_bot : Ideal.ofBits .f32 4286578688#32 = ⊥ := by
  have h1 : (BitVec.extractLsb' 23 8 4286578688#32).toNat = 255 := by decide
  have h2 : (BitVec.extractLsb' 0 23 4286578688#32).toNat = 0 := by decide
  have h3 : (BitVec.extractLsb' (8 + 23) 1 4286578688#32 == 1#1) = true := by decide
  simp only [Ideal.ofBits, Ideal.ieee, h1, h2, h3]
  norm_num

/-- A maximum over a finite range, started from minus infinity. -/
def top {n : ℕ} (f : Fin n → EReal) : EReal := Finset.fold max (Ideal.ofBits .f32 4286578688#32) f Finset.univ

/-- The maximum is the least upper bound of the entries. -/
theorem top_sup {n : ℕ} (f : Fin n → EReal) : top f = Finset.univ.sup f := by
  unfold top
  rw [bits_bot]
  rfl

/-- The maximum is one of the entries. -/
theorem top_mem {n : ℕ} (f : Fin (n + 1) → EReal) : ∃ i, top f = f i := by
  obtain ⟨i, -, h⟩ := Finset.exists_mem_eq_sup Finset.univ ⟨0, Finset.mem_univ _⟩ f
  exact ⟨i, (top_sup f).trans h⟩

/-- An entry is at most the maximum. -/
theorem entry_le {n : ℕ} (f : Fin n → EReal) (i : Fin n) : f i ≤ top f := by
  rw [top_sup]
  exact Finset.le_sup (f := f) (Finset.mem_univ i)

/-- A bound of all entries bounds the maximum. -/
theorem top_le {n : ℕ} (f : Fin n → EReal) (B : EReal) (h : ∀ i, f i ≤ B) : top f ≤ B := by
  rw [top_sup]
  exact Finset.sup_le fun i _ => h i

/-- Maxima over two ranges may be taken in either order. -/
theorem top_comm {n k : ℕ} (f : Fin n → Fin k → EReal) : top (fun i => top (f i)) = top (fun j => top fun i => f i j) :=
  le_antisymm (top_le _ _ fun i => top_le _ _ fun j => (entry_le (fun i => f i j) i).trans (entry_le (fun j => top fun i => f i j) j))
    (top_le _ _ fun j => top_le _ _ fun i => (entry_le (f i) j).trans (entry_le (fun i => top (f i)) i))

/-- A monotone function of a maximum is the maximum of the function's values. -/
theorem map_top {n : ℕ} (g : EReal → EReal) (hg : Monotone g) (f : Fin (n + 1) → EReal) : g (top f) = top fun i => g (f i) := by
  refine le_antisymm ?_ (top_le _ _ fun i => hg (entry_le f i))
  obtain ⟨i, h⟩ := top_mem f
  rw [h]
  exact entry_le (fun i => g (f i)) i

/-- A maximum over 128 entries, taken first over sixteen groups' members of each residue modulo eight. -/
theorem top_tiles (f : Fin 128 → EReal) : top (fun a : Fin 8 => top fun b : Fin 16 => f ⟨b.val * 8 + a.val, by omega⟩) = top f := by
  refine le_antisymm (top_le _ _ fun a => top_le _ _ fun b => entry_le f _) (top_le _ _ fun i => ?_)
  refine le_trans ?_ (entry_le (fun a : Fin 8 => top fun b : Fin 16 => f ⟨b.val * 8 + a.val, by omega⟩) ⟨i.val % 8, by omega⟩)
  refine le_trans (le_of_eq (congrArg f (Fin.ext ?_))) (entry_le (fun b : Fin 16 => f ⟨b.val * 8 + i.val % 8, by omega⟩) ⟨i.val / 8, by omega⟩)
  simp only
  omega

/-- The exponential of the extended reals is monotone. -/
theorem exp_mono : Monotone Ideal.exp := by
  intro a b h
  induction a using EReal.rec with
  | bot =>
    induction b using EReal.rec with
    | bot => exact le_rfl
    | top => exact _root_.le_top
    | coe y => exact EReal.coe_nonneg.2 (Real.exp_pos y).le
  | top => obtain rfl := top_le_iff.1 h; exact le_rfl
  | coe x =>
    induction b using EReal.rec with
    | bot => exact absurd h (by simp)
    | top => exact _root_.le_top
    | coe y => exact EReal.coe_le_coe_iff.2 (Real.exp_le_exp.2 (EReal.coe_le_coe_iff.1 h))

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- On a group of real magnitudes below `2 ^ 128` the kernel's scale is the reference's. -/
theorem scl_eq (a : ℝ) (ha : a < (2 : ℝ) ^ (128 : ℤ)) : scl (a : EReal) = Ideal.exp2 (refE ((Real.log 2 : ℝ) : EReal) (a : EReal)) := by
  obtain ⟨h1, h2⟩ := expo_range a ha
  rw [refE_eq, exp2_eq, scl, kexp_eq a ha, pow2_eq _ h1 h2]

/-- On such a group the kernel's codes are the reference's. -/
theorem code_eq (x : EReal) (a : ℝ) (ha : a < (2 : ℝ) ^ (128 : ℤ)) : code x (a : EReal)
    = min (Ideal.ofBits .f32 1138753536#32) (max (Ideal.ofBits .f32 3286237184#32) (x * Ideal.exp2 (0 - refE ((Real.log 2 : ℝ) : EReal) (a : EReal)))) := by
  obtain ⟨h1, h2⟩ := expo_range a ha
  rw [refE_eq, code, kexp_eq a ha, pow2_neg_eq _ h1 h2]
  have h : Ideal.exp2 (0 - (((expo a : ℤ) : ℝ) : EReal)) = (((2 : ℝ) ^ (-expo a) : ℝ) : EReal) := by
    rw [← exp2_eq (-expo a), ← EReal.coe_zero, ← EReal.coe_sub]
    simp
  rw [h]

end Cert.Val

end
-- ==== Proof.QuantEqual.lean ====
module

public import proofs.«01_k».proof.Proof.QuantArrays
public import proofs.«01_k».proof.Proof.RefQuant
public import proofs.«01_k».proof.Proof.Folds
public import proofs.«01_k».proof.Pre_finite_inputs
public import Idealize.ShloMosaic.Lib.ReduceAll
public import Idealize.ShloMosaic.Lib.Affine

@[expose] public section

set_option maxRecDepth 16384

noncomputable section

namespace Cert.Equal

open Idealize.ShloMosaic Idealize.ShloMosaic.TcCoe
open Cert.Val
open Cert.KernelIdeal.Val (kmax Qc Qs Kc Ks Vt)
open Cert.ReferenceIdeal.Val (ln2 ln2_eq rmax rcode)

/-- Every entry is a real number of magnitude below two to the 128. -/
def Bounded {s : Shape} (x : FVec Ideal s .bf16) : Prop := ∀ i, ∃ v : ℝ, |v| < (2 : ℝ) ^ (128 : ℤ) ∧ x i = (v : EReal)

/-- The word of the largest finite bfloat16, read as a real number. -/
theorem bits_max : Ideal.ofBits .f32 2139029504#32 = (((2 : ℝ) ^ (128 : ℤ) - (2 : ℝ) ^ (120 : ℤ) : ℝ) : EReal) := by
  have h1 : (BitVec.extractLsb' 23 8 2139029504#32).toNat = 254 := by decide
  have h2 : (BitVec.extractLsb' 0 23 2139029504#32).toNat = 8323072 := by decide
  have h3 : (BitVec.extractLsb' (8 + 23) 1 2139029504#32 == 1#1) = false := by decide
  simp only [Ideal.ofBits, Ideal.ieee, h1, h2, h3]
  norm_num

/-- The word of 448, read as a real number. -/
theorem bits_hi : Ideal.ofBits .f32 1138753536#32 = ((448 : ℝ) : EReal) := by
  have h1 : (BitVec.extractLsb' 23 8 1138753536#32).toNat = 135 := by decide
  have h2 : (BitVec.extractLsb' 0 23 1138753536#32).toNat = 6291456 := by decide
  have h3 : (BitVec.extractLsb' (8 + 23) 1 1138753536#32 == 1#1) = false := by decide
  simp only [Ideal.ofBits, Ideal.ieee, h1, h2, h3]
  norm_num

/-- The word of -448, read as a real number. -/
theorem bits_lo : Ideal.ofBits .f32 3286237184#32 = ((-448 : ℝ) : EReal) := by
  have h1 : (BitVec.extractLsb' 23 8 3286237184#32).toNat = 135 := by decide
  have h2 : (BitVec.extractLsb' 0 23 3286237184#32).toNat = 6291456 := by decide
  have h3 : (BitVec.extractLsb' (8 + 23) 1 3286237184#32 == 1#1) = true := by decide
  simp only [Ideal.ofBits, Ideal.ieee, h1, h2, h3]
  norm_num

/-- Entries of magnitude at most the largest finite bfloat16 are bounded. -/
theorem bounded_of_le {s : Shape} (x : FVec Ideal s .bf16) (h : ∀ i, max (x i) (-(x i)) ≤ Ideal.ofBits .f32 2139029504#32) : Bounded x := by
  intro i
  have h1 := h i
  rw [bits_max] at h1
  obtain ⟨h2, h3⟩ := max_le_iff.1 h1
  have h4 : (0 : ℝ) < (2 : ℝ) ^ (120 : ℤ) := by positivity
  have h5 : (2 : ℝ) ^ (128 : ℤ) - (2 : ℝ) ^ (120 : ℤ) < (2 : ℝ) ^ (128 : ℤ) := by linarith
  generalize (2 : ℝ) ^ (128 : ℤ) - (2 : ℝ) ^ (120 : ℤ) = B at *
  generalize x i = v at *
  induction v using EReal.rec with
  | bot => exact absurd h3 (by simp)
  | top => exact absurd h2 (by simp)
  | coe v =>
    rw [← EReal.coe_neg] at h3
    have h2 := EReal.coe_le_coe_iff.1 h2
    have h3 := EReal.coe_le_coe_iff.1 h3
    refine ⟨v, ?_, rfl⟩
    rw [abs_lt]
    constructor <;> linarith

/-- A comparison that came out true says that the one entry is at most the other. -/
theorem entry_le_of_one {s : Shape} (x : FVec Ideal s .f32) (y : FVec Ideal s .f32) (i : s.Idx) (h : cmpf (F := Ideal) .ole x y i = 1#1) : x i ≤ y i := by
  by_contra hn
  have : cmpf (F := Ideal) .ole x y i = 0#1 := by
    show BitVec.ofBool (decide (x i ≤ y i)) = _
    simp [hn]
  rw [this] at h
  exact absurd h (by decide)

/-- The precondition says that the three arguments are bounded. -/
theorem bounded_of_pre [Cert.Pre_finite_inputs.Facts] (x : FVec Ideal Cert.KernelIdeal.S8x8192x2048 .bf16) (k v : FVec Ideal Cert.KernelIdeal.S8x8192x256 .bf16)
    (h : Cert.Pre_finite_inputs.fn (F := Ideal) x k v = fun _ => 1#1) : Bounded x ∧ Bounded k ∧ Bounded v := by
  have h := congrFun h (fun d => d.elim0)
  dsimp only [Cert.Pre_finite_inputs.fn] at h
  obtain ⟨h12, h3⟩ := IntOp.andi_eq_one.1 h
  obtain ⟨h1, h2⟩ := IntOp.andi_eq_one.1 h12
  haveI : Subsingleton Cert.Pre_finite_inputs.S_.Idx := ⟨fun a b => funext fun d => d.elim0⟩
  exact ⟨bounded_of_le x fun i => entry_le_of_one _ _ i (Host.reduce_andi_all _ _ _ _ _ h1 i),
    bounded_of_le k fun i => entry_le_of_one _ _ i (Host.reduce_andi_all _ _ _ _ _ h2 i),
    bounded_of_le v fun i => entry_le_of_one _ _ i (Host.reduce_andi_all _ _ _ _ _ h3 i)⟩

/-- The group maxima of the two programs are the same: they take the two axes in a different order. -/
theorem kmax_eq {C : ℕ} (x : FVec Ideal ⟨3, ![8, 8192, C]⟩ .bf16) (n : Fin 8) (g : Fin 64) (h : ℕ) (hh : h * 128 + 128 ≤ C) : kmax x n g h hh = rmax x n g h hh :=
  top_comm fun b r : Fin 128 => (fun v : EReal => max v (-v)) (x (ix3 n ⟨g.val * 128 + r.val, by omega⟩ ⟨h * 128 + b.val, by omega⟩))

/-- The largest magnitude of a group of a bounded array is a real number below two to the 128. -/
theorem rmax_real {C : ℕ} (x : FVec Ideal ⟨3, ![8, 8192, C]⟩ .bf16) (hx : Bounded x) (n : Fin 8) (g : Fin 64) (h : ℕ) (hh : h * 128 + 128 ≤ C) :
    ∃ a : ℝ, a < (2 : ℝ) ^ (128 : ℤ) ∧ rmax x n g h hh = (a : EReal) := by
  obtain ⟨r, hr⟩ := top_mem fun r : Fin 128 => top fun b : Fin 128 => (fun v : EReal => max v (-v)) (x (ix3 n ⟨g.val * 128 + r.val, by omega⟩ ⟨h * 128 + b.val, by omega⟩))
  obtain ⟨b, hb⟩ := top_mem fun b : Fin 128 => (fun v : EReal => max v (-v)) (x (ix3 n ⟨g.val * 128 + r.val, by omega⟩ ⟨h * 128 + b.val, by omega⟩))
  obtain ⟨v, hv, ev⟩ := hx (ix3 n ⟨g.val * 128 + r.val, by omega⟩ ⟨h * 128 + b.val, by omega⟩)
  refine ⟨max v (-v), ?_, (hr.trans hb).trans ?_⟩
  · rwa [abs_eq_max_neg] at hv
  · simp only [ev]
    rw [EReal.coe_strictMono.monotone.map_max, EReal.coe_neg]

/-- On a bounded array the kernel's codes are the reference's. -/
theorem kcode_eq {C : ℕ} (x : FVec Ideal ⟨3, ![8, 8192, C]⟩ .bf16) (hx : Bounded x) (n : Fin 8) (g : Fin 64) (h : ℕ) (hh : h * 128 + 128 ≤ C) (v : EReal) :
    code v (kmax x n g h hh) = rcode v (refE ln2 (rmax x n g h hh)) := by
  obtain ⟨a, ha, e⟩ := rmax_real x hx n g h hh
  rw [kmax_eq, e, ln2_eq, code_eq v a ha, rcode]

/-- On a bounded array the kernel's scales are the reference's. -/
theorem kscl_eq {C : ℕ} (x : FVec Ideal ⟨3, ![8, 8192, C]⟩ .bf16) (hx : Bounded x) (n : Fin 8) (g : Fin 64) (h : ℕ) (hh : h * 128 + 128 ≤ C) :
    scl (kmax x n g h hh) = Ideal.exp2 (refE ln2 (rmax x n g h hh)) := by
  obtain ⟨a, ha, e⟩ := rmax_real x hx n g h hh
  rw [kmax_eq, e, ln2_eq, scl_eq a ha]

/-- A scale of a bounded array is a real number, not negative. -/
theorem kscl_real {C : ℕ} (x : FVec Ideal ⟨3, ![8, 8192, C]⟩ .bf16) (hx : Bounded x) (n : Fin 8) (g : Fin 64) (h : ℕ) (hh : h * 128 + 128 ≤ C) :
    ∃ v : ℝ, 0 ≤ v ∧ scl (kmax x n g h hh) = (v : EReal) := by
  obtain ⟨a, ha, e⟩ := rmax_real x hx n g h hh
  refine ⟨(2 : ℝ) ^ expo a, by positivity, ?_⟩
  rw [kscl_eq x hx, e, ln2_eq, refE_eq, exp2_eq]

/-- A code of a bounded array is a real number. -/
theorem kcode_real {C : ℕ} (x : FVec Ideal ⟨3, ![8, 8192, C]⟩ .bf16) (hx : Bounded x) (n : Fin 8) (g : Fin 64) (h : ℕ) (hh : h * 128 + 128 ≤ C) (i : Shape.Idx ⟨3, ![8, 8192, C]⟩) :
    ∃ v : ℝ, code (x i) (kmax x n g h hh) = (v : EReal) := by
  obtain ⟨a, ha, e⟩ := rmax_real x hx n g h hh
  obtain ⟨w, -, ew⟩ := hx i
  have h2 : Ideal.exp2 (0 - (((expo a : ℤ) : ℝ) : EReal)) = (((2 : ℝ) ^ (-expo a) : ℝ) : EReal) := by
    rw [← exp2_eq (-expo a), ← EReal.coe_zero, ← EReal.coe_sub]
    simp
  refine ⟨min 448 (max (-448) (w * (2 : ℝ) ^ (-expo a))), ?_⟩
  rw [kcode_eq x hx, e, ln2_eq, refE_eq, rcode, ew, h2, bits_hi, bits_lo, EReal.coe_strictMono.monotone.map_min, EReal.coe_strictMono.monotone.map_max, EReal.coe_mul]

/-- A group maximum depends only on which group it is. -/
theorem kmax_congr {C : ℕ} (x : FVec Ideal ⟨3, ![8, 8192, C]⟩ .bf16) {n n' : Fin 8} {g g' : Fin 64} {h h' : ℕ} (hh : h * 128 + 128 ≤ C) (hh' : h' * 128 + 128 ≤ C)
    (en : n = n') (eg : g = g') (eh : h = h') : kmax x n g h hh = kmax x n' g' h' hh' := by
  subst en eg eh
  rfl

section
variable (X : FVec Ideal Cert.KernelIdeal.S8x8192x2048 .bf16) (hX : Bounded X) (Y : FVec Ideal Cert.KernelIdeal.S8x8192x256 .bf16) (hY : Bounded Y)

include hX in
/-- A query's code, head by head. -/
theorem qc_at (n : Fin 8) (i : Fin 8192) (h : Fin 16) (d : Fin 128) (p : h.val * 128 + d.val < 2048) :
    Qc X (ix3 n i ⟨h.val * 128 + d.val, p⟩) = Cert.ReferenceIdeal.Gen.k0_pay4 (F := Ideal) X (ix4 n i h d) := by
  rw [Cert.ReferenceIdeal.Val.code_q, ← kcode_eq X hX]
  exact congrArg (code _) (kmax_congr X _ _ rfl rfl (by show (h.val * 128 + d.val) / 128 = h.val; omega))

include hX in
/-- A query scale: every lane of a head holds the group's scale. -/
theorem qs_at (n : Fin 8) (g : Fin 64) (h : Fin 16) (d : Fin 128) (p : h.val * 128 + d.val < 2048) :
    Qs X (ix3 n g ⟨h.val * 128 + d.val, p⟩) = Cert.ReferenceIdeal.Gen.k0_pay5 (F := Ideal) X (ix3 n g h) := by
  rw [Cert.ReferenceIdeal.Val.scale_q, ← kscl_eq X hX]
  exact congrArg scl (kmax_congr X _ _ rfl rfl (by show (h.val * 128 + d.val) / 128 = h.val; omega))

include hY in
/-- A key's or a value's code, head by head. -/
theorem kc_at (n : Fin 8) (i : Fin 8192) (h : Fin 2) (d : Fin 128) (p : h.val * 128 + d.val < 256) :
    Kc Y (ix3 n i ⟨h.val * 128 + d.val, p⟩)
      = Cert.ReferenceIdeal.Gen.k0_pay9 (F := Ideal) (Cert.ReferenceIdeal.Gen.k0_pay6 (F := Ideal) Y) (Cert.ReferenceIdeal.Gen.k0_pay7 (F := Ideal) Y) (Scalar.ofBits .f32 0x3B124925#32) (ix4 n i h d) := by
  rw [Cert.ReferenceIdeal.Val.code_k, ← kcode_eq Y hY]
  exact congrArg (code _) (kmax_congr Y _ _ rfl rfl (by show (h.val * 128 + d.val) / 128 = h.val; omega))

include hY in
/-- The same code where the kernel keeps it transposed. -/
theorem vt_at (n : Fin 8) (i : Fin 8192) (h : Fin 2) (d : Fin 128) (p : h.val * 128 + d.val < 256) :
    Vt Y (ix3 n ⟨h.val * 128 + d.val, p⟩ i)
      = Cert.ReferenceIdeal.Gen.k0_pay9 (F := Ideal) (Cert.ReferenceIdeal.Gen.k0_pay6 (F := Ideal) Y) (Cert.ReferenceIdeal.Gen.k0_pay7 (F := Ideal) Y) (Scalar.ofBits .f32 0x3B124925#32) (ix4 n i h d) :=
  kc_at Y hY n i h d p

include hY in
/-- A key's or a value's scale: every lane of a head holds the group's scale. -/
theorem ks_at (n : Fin 8) (g : Fin 64) (h : Fin 2) (d : Fin 128) (p : h.val * 128 + d.val < 256) :
    Ks Y (ix3 n g ⟨h.val * 128 + d.val, p⟩)
      = Cert.ReferenceIdeal.Gen.k0_pay10 (F := Ideal) (Cert.ReferenceIdeal.Gen.k0_pay7 (F := Ideal) Y) (Scalar.ofBits .f32 0x3B124925#32) (ix3 n g h) := by
  rw [Cert.ReferenceIdeal.Val.scale_k, ← kscl_eq Y hY]
  exact congrArg scl (kmax_congr Y _ _ rfl rfl (by show (h.val * 128 + d.val) / 128 = h.val; omega))

include hX in
/-- The queries' codes of the two programs are equal. -/
theorem qc_eq (w) : shapeCast Cert.KernelIdeal.S8x8192x16x128 (Qc X) w = Cert.ReferenceIdeal.Gen.k0_pay4 (F := Ideal) X := by
  funext y
  idx_vars y
  rw [← qc_at X hX y0 y1 y2 y3 (by omega)]
  pointwise

include hX in
/-- The queries' scales of the two programs are equal. -/
theorem qs_eq (w w' w'') : shapeCast Cert.KernelIdeal.S8x64x16 (extractStridedSlice Cert.KernelIdeal.S8x64x16x1 ![0, 0, 0, 0]
    (shapeCast Cert.KernelIdeal.S8x64x16x128 (Qs X) w) w') w'' = Cert.ReferenceIdeal.Gen.k0_pay5 (F := Ideal) X := by
  funext y
  idx_vars y
  rw [← qs_at X hX y0 y1 y2 0 (by simp only [Fin.val_zero]; omega)]
  pointwise

include hY in
/-- The codes of the keys, or of the values, of the two programs are equal. -/
theorem kc_eq (w) : shapeCast Cert.KernelIdeal.S8x8192x2x128 (Kc Y) w
    = Cert.ReferenceIdeal.Gen.k0_pay9 (F := Ideal) (Cert.ReferenceIdeal.Gen.k0_pay6 (F := Ideal) Y) (Cert.ReferenceIdeal.Gen.k0_pay7 (F := Ideal) Y) (Scalar.ofBits .f32 0x3B124925#32) := by
  funext y
  idx_vars y
  rw [← kc_at Y hY y0 y1 y2 y3 (by omega)]
  pointwise

include hY in
/-- The scales of the keys, or of the values, of the two programs are equal. -/
theorem ks_eq (w w' w'') : shapeCast Cert.KernelIdeal.S8x64x2 (extractStridedSlice Cert.KernelIdeal.S8x64x2x1 ![0, 0, 0, 0]
    (shapeCast Cert.KernelIdeal.S8x64x2x128 (Ks Y) w) w') w''
    = Cert.ReferenceIdeal.Gen.k0_pay10 (F := Ideal) (Cert.ReferenceIdeal.Gen.k0_pay7 (F := Ideal) Y) (Scalar.ofBits .f32 0x3B124925#32) := by
  funext y
  idx_vars y
  rw [← ks_at Y hY y0 y1 y2 0 (by simp only [Fin.val_zero]; omega)]
  pointwise

include hX in
/-- A query's code is a real number. -/
theorem qc_real (i) : ∃ v : ℝ, Qc X i = (v : EReal) := kcode_real X hX _ _ _ _ _

include hX in
/-- A query scale is a real number, not negative. -/
theorem qs_real (i) : ∃ v : ℝ, 0 ≤ v ∧ Qs X i = (v : EReal) := kscl_real X hX _ _ _ _

include hY in
/-- A key's or a value's code is a real number. -/
theorem kc_real (i) : ∃ v : ℝ, Kc Y i = (v : EReal) := kcode_real Y hY _ _ _ _ _

include hY in
/-- A key's or a value's scale is a real number, not negative. -/
theorem ks_real (i) : ∃ v : ℝ, 0 ≤ v ∧ Ks Y i = (v : EReal) := kscl_real Y hY _ _ _ _

end

end Cert.Equal

end
-- ==== Proof.AttnScores.lean ====
module

public import proofs.«01_k».proof.Proof.Gen.KernelIdeal.Frame
public import Idealize.ShloMosaic.Lib.Pointwise
public import Idealize.ShloMosaic.Lib.Pipeline.ValueKit
public import Idealize.ShloMosaic.Lib.WholeRead

@[expose] public section

set_option maxRecDepth 16384

noncomputable section

namespace Cert.KernelIdeal.Val

open Idealize.ShloMosaic Idealize.ShloMosaic.TcCoe Idealize.SL.Sem
open Cert.KernelIdeal Cert.KernelIdeal.Gen

/-- Row `r` of the two heads' query codes, one head's 128 rows above the other's. -/
def qcat (x0 : FVec Ideal S1x128x256 .fp8e4m3) (r : Fin 256) (d : Fin 128) : EReal :=
  if h : r.val < 128 then x0 (ix3 0 ⟨r, h⟩ ⟨d, by omega⟩) else x0 (ix3 0 ⟨r - 128, by omega⟩ ⟨128 + d, by omega⟩)

/-- The raw scores: entry (key, query column) is the product of a key's codes with a query's. -/
def raw (x0 : FVec Ideal S1x128x256 .fp8e4m3) (x2 : FVec Ideal S1x8192x128 .fp8e4m3) : FVec Ideal S8192x256 .f32 :=
  fun i => ∑ d : Fin 128, x2 (ix3 0 (i 0) d) * qcat x0 (i 1) d

/-- The largest raw score of each key block in each of the eight classes of its rows modulo 8, for every query column. -/
def m8 (x0 : FVec Ideal S1x128x256 .fp8e4m3) (x2 : FVec Ideal S1x8192x128 .fp8e4m3) : FVec Ideal S64x8x256 .f32 :=
  fun i => Finset.fold max (Ideal.ofBits FTy.f32 4286578688#32) (fun a : Fin 16 => raw x0 x2 (ix2 ⟨(i 0).val * 128 + (a.val * 8 + (i 1).val), by have := (i 0).isLt; have := (i 1).isLt; have := a.isLt; simp at *; omega⟩ (i 2))) Finset.univ

/-- A read of a rectangle of a three-axis buffer, at one entry. -/
theorem rd3 {A B C a b c : ℕ} {φ : EltTy} {m : Memref sig .tc .vmem ⟨3, ![A, B, C]⟩ φ} (h : m.IsWhole) (X : Shape.Idx ⟨3, ![A, B, C]⟩ → Elt Ideal φ) {o0 o1 o2 : ℕ}
    (inb : ∀ i, (![o0, o1, o2] : Fin 3 → ℕ) i + (![a, b, c] : Fin 3 → ℕ) i ≤ (⟨3, ![A, B, C]⟩ : Shape).size i) (i0 : Fin a) (i1 : Fin b) (i2 : Fin c)
    (j0 : Fin A) (j1 : Fin B) (j2 : Fin C) (h0 : j0.val = o0 + i0.val) (h1 : j1.val = o1 + i1.val) (h2 : j2.val = o2 + i2.val) :
    View.readAt (Elt Ideal) m.view (Rect.unit (s := ⟨3, ![A, B, C]⟩) ![o0, o1, o2] ![a, b, c] inb).toLoadRect (h.unread X) (ix3 i0 i1 i2) = X (ix3 j0 j1 j2) := by
  rw [Memref.IsWhole.readAt_unread]
  refine congrArg X (funext fun a => Fin.ext ?_)
  fin_cases a
  · exact (congrArg (o0 + ·) (Nat.one_mul i0.val)).trans h0.symm
  · exact (congrArg (o1 + ·) (Nat.one_mul i1.val)).trans h1.symm
  · exact (congrArg (o2 + ·) (Nat.one_mul i2.val)).trans h2.symm

/-- Where an entry of a rectangle lies in a two-axis array. -/
theorem emb2 {A B a b : ℕ} {o0 o1 : ℕ} (inb) (i0 : Fin a) (i1 : Fin b) (j0 : Fin A) (j1 : Fin B) (h0 : j0.val = o0 + i0.val) (h1 : j1.val = o1 + i1.val) :
    (Rect.unit (s := ⟨2, ![A, B]⟩) ![o0, o1] ![a, b] inb).emb (ix2 i0 i1) = ix2 j0 j1 := by
  refine funext fun a => Fin.ext ?_
  fin_cases a
  · exact (congrArg (o0 + ·) (Nat.one_mul i0.val)).trans h0.symm
  · exact (congrArg (o1 + ·) (Nat.one_mul i1.val)).trans h1.symm

/-- Where an entry of a rectangle lies in a three-axis array. -/
theorem emb3 {A B C a b c : ℕ} {o0 o1 o2 : ℕ} (inb) (i0 : Fin a) (i1 : Fin b) (i2 : Fin c) (j0 : Fin A) (j1 : Fin B) (j2 : Fin C)
    (h0 : j0.val = o0 + i0.val) (h1 : j1.val = o1 + i1.val) (h2 : j2.val = o2 + i2.val) :
    (Rect.unit (s := ⟨3, ![A, B, C]⟩) ![o0, o1, o2] ![a, b, c] inb).emb (ix3 i0 i1 i2) = ix3 j0 j1 j2 := by
  refine funext fun a => Fin.ext ?_
  fin_cases a
  · exact (congrArg (o0 + ·) (Nat.one_mul i0.val)).trans h0.symm
  · exact (congrArg (o1 + ·) (Nat.one_mul i1.val)).trans h1.symm
  · exact (congrArg (o2 + ·) (Nat.one_mul i2.val)).trans h2.symm

/-- The product of 128 rows of key codes with the query codes is the same 128 rows of the raw scores. -/
theorem score_piece (x0 : FVec Ideal S1x128x256 .fp8e4m3) (x2 : FVec Ideal S1x8192x128 .fp8e4m3) (o : ℕ) (ho : o + 128 ≤ 8192) (inb)
    (Q : FVec Ideal S256x128 .fp8e4m3) (hQ : ∀ r d, Q (ix2 r d) = qcat x0 r d) (K : FVec Ideal S1x128x128 .fp8e4m3)
    (hK : ∀ (r : Fin 128) (d : Fin 128) (j : Fin 8192), j.val = o + r.val → K (ix3 0 r d) = x2 (ix3 0 j d)) (h1) (h2) (i : S128x256.Idx) :
    shapeCast S128x256 (matmul (F := Ideal) (φ₁ := .fp8e4m3) (φ₂ := .fp8e4m3) dot_S128x128_S256x128_S128x256_1_1_0_0_n_n none (shapeCast S128x128 K h1) Q (constant S128x256 FTy.f32 0#32)) h2 i
     = raw x0 x2 ((Rect.unit (s := S8192x256) ![o, 0] S128x256.size inb).emb i) := by
  idx_vars i
  rw [emb2 inb i0 i1 ⟨o + i0.val, by omega⟩ i1 rfl (Nat.zero_add _).symm]
  pointwise [raw, hQ]
  refine Finset.sum_congr rfl fun d _ => ?_
  rw [hK i0 d ⟨o + i0.val, by omega⟩ rfl]

/-- The maximum, over the rows of one residue modulo 8, of a key block's product is that block's row of `m8`. -/
theorem m8_piece (x0 : FVec Ideal S1x128x256 .fp8e4m3) (x2 : FVec Ideal S1x8192x128 .fp8e4m3) (n : ℕ) (hn : n < 64) (o : ℕ) (ho : o = n * 128) (inb)
    (Q : FVec Ideal S256x128 .fp8e4m3) (hQ : ∀ r d, Q (ix2 r d) = qcat x0 r d) (K : FVec Ideal S1x128x128 .fp8e4m3)
    (hK : ∀ (r : Fin 128) (d : Fin 128) (j : Fin 8192), j.val = o + r.val → K (ix3 0 r d) = x2 (ix3 0 j d)) (h1) (h2) (h3) (h4) (h5) (h6) (i : S1x8x256.Idx) :
    shapeCast S1x8x256 (multiReduction FKind.maximumf [0] S8x256 (shapeCast S16x8x256 (matmul (F := Ideal) (φ₁ := .fp8e4m3) (φ₂ := .fp8e4m3) dot_S128x128_S256x128_S128x256_1_1_0_0_n_n none (shapeCast S128x128 K h1) Q (constant S128x256 FTy.f32 0#32)) h2) 4286578688#32 h3 h4 h5) h6 i
     = m8 x0 x2 ((Rect.unit (s := S64x8x256) ![n, 0, 0] S1x8x256.size inb).emb i) := by
  idx_vars i
  rw [emb3 inb i0 i1 i2 ⟨n, hn⟩ i1 i2 (by simp) (Nat.zero_add _).symm (Nat.zero_add _).symm]
  pointwise [m8, raw, hQ]
  refine congrArg (fun f => Finset.fold max _ f Finset.univ) (funext fun e => ?_)
  refine Finset.sum_congr rfl fun d _ => ?_
  rw [hK _ d ⟨n * 128 + (e.val * 8 + i1.val), by omega⟩ (by simp [ho])]

section
variable (c : Dev nD) (arg4 : Memref sig .tc .vmem S1x128x256 .fp8e4m3) (harg4 : arg4.IsWhole) (arg5 : Memref sig .tc .vmem S1x1x1x256 .f32) (harg5 : arg5.IsWhole) (arg6 : Memref sig .tc .vmem S1x8192x128 .fp8e4m3) (harg6 : arg6.IsWhole) (arg7 : Memref sig .tc .vmem S1x64x128 .f32) (harg7 : arg7.IsWhole) (arg8 : Memref sig .tc .vmem S1x128x8192 .fp8e4m3) (harg8 : arg8.IsWhole) (arg9 : Memref sig .tc .vmem S1x64x128 .f32) (harg9 : arg9.IsWhole) (arg10 : Memref sig .tc .vmem S1x128x256 .bf16) (harg10 : arg10.IsWhole) (arg11 : Memref sig .tc .vmem S8192x256 .f32) (harg11 : arg11.IsWhole) (arg12 : Memref sig .tc .vmem S64x8x256 .f32) (harg12 : arg12.IsWhole) (arg13 : Memref sig .tc .vmem S64x256 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S64x256 .f32) (harg16 : arg16.IsWhole) (arg17 : Memref sig .tc .vmem S128x256 .f32) (harg17 : arg17.IsWhole) (arg18 : Memref sig .tc .vmem S8x256 .f32) (harg18 : arg18.IsWhole) (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32)

/-- The concatenation of the two heads' query codes is `qcat`. -/
theorem v4_eq (r : Fin 256) (d : Fin 128) : (kernelRun1_A.sl.v4 (F := Ideal) c arg4 harg4 x0) (ix2 r d) = qcat x0 r d := by
  unfold kernelRun1_A.sl.v4 kernelRun1_A.sl.v1 kernelRun1_A.sl.v3 qcat
  pointwise
  split
  · exact (rd3 harg4 x0 _ 0 _ d 0 _ _ rfl (Nat.zero_add _).symm (Nat.zero_add _).symm)
  · exact (rd3 harg4 x0 _ 0 _ d 0 _ _ rfl (Nat.zero_add _).symm rfl)

/-- After the loop over key blocks the score buffer holds the raw scores: a read of any rectangle of it gives their entries. -/
theorem HS0_read (B : LoadRect S8192x256) : arg11.view.readCov (Val := Elt Ideal) (kernelRun1_A.sl.HS0_64 (F := Ideal) c arg4 harg4 arg6 harg6 x0 x2) B = fun j => raw x0 x2 (B.idx j) := by
  rw [View.readCov_eq_canon']
  funext j
  refine View.canon_apply_of_pieces (Val := Elt Ideal) (e := .f32) (raw x0 x2) _ ?_ _ (View.cover_of_tiledL (s := S8192x256) (kernelRun1_A.sl.HS0_64 (F := Ideal) c arg4 harg4 arg6 harg6 x0 x2) S128x256.size (by sl_kernel_rfl) _)
  unfold kernelRun1_A.sl.HS0_64
  iterate 64
    refine List.forall_mem_cons.2 ⟨score_piece x0 x2 _ (by decide) (by decide) _ (v4_eq c arg4 harg4 x0) _ (fun r d j hj => rd3 harg6 x2 (by decide) 0 r d 0 j d rfl hj (Nat.zero_add _).symm) (by decide) (by decide), ?_⟩
  exact fun p hp => absurd hp List.not_mem_nil
set_option maxRecDepth 100000 in
/-- After the loop over key blocks the buffer of partial maxima holds `m8`. -/
theorem HS1_read (B : LoadRect S64x8x256) : arg12.view.readCov (Val := Elt Ideal) (kernelRun1_A.sl.HS1_64 (F := Ideal) c arg4 harg4 arg6 harg6 x0 x2) B = fun j => m8 x0 x2 (B.idx j) := by
  rw [View.readCov_eq_canon']
  funext j
  refine View.canon_apply_of_pieces (Val := Elt Ideal) (e := .f32) (m8 x0 x2) _ ?_ _ (View.cover_of_tiledL (s := S64x8x256) (kernelRun1_A.sl.HS1_64 (F := Ideal) c arg4 harg4 arg6 harg6 x0 x2) S1x8x256.size (by sl_kernel_rfl) _)
  unfold kernelRun1_A.sl.HS1_64
  iterate 64
    refine List.forall_mem_cons.2 ⟨m8_piece x0 x2 _ (by decide) _ rfl (by decide) _ (v4_eq c arg4 harg4 x0) _ (fun r d j hj => rd3 harg6 x2 (by decide) 0 r d 0 j d rfl hj (Nat.zero_add _).symm) (by decide) (by decide) (by decide) (.inl rfl) rfl (by decide), ?_⟩
  exact fun p hp => absurd hp List.not_mem_nil
end
-- ==== Proof.AttnMiddle.lean ====
module

public import proofs.«01_k».proof.Proof.Gen.KernelIdeal.Frame
public import Idealize.ShloMosaic.Lib.Pointwise
public import Idealize.ShloMosaic.Lib.Pipeline.ValueKit
public import proofs.«01_k».proof.Proof.AttnScores
public import proofs.«01_k».proof.Proof.Exponent
public import proofs.«01_k».proof.Proof.QuantBlock

@[expose] public section

set_option maxRecDepth 16384

noncomputable section

namespace Cert.KernelIdeal.Val

open Idealize.ShloMosaic Idealize.ShloMosaic.TcCoe Idealize.SL.Sem
open Cert.KernelIdeal Cert.KernelIdeal.Gen
open Cert.Val

/-- The lane of a 256-lane pair of query blocks inside its own block. -/
def lane (l : Fin 256) : Fin 128 := if h : l.val < 128 then ⟨l.val, h⟩ else ⟨l.val - 128, by omega⟩

/-- The first lane of the query block that lane `l` belongs to. -/
def laneBase (l : Fin 256) (b : Fin 128) : Fin 256 := if l.val < 128 then ⟨b.val, by omega⟩ else ⟨128 + b.val, by omega⟩

/-- The scale of a query column: the quantiser's scale times the softmax scale. -/
def cq (x1 : FVec Ideal S1x1x1x256 .f32) (l : Fin 256) : EReal := x1 (ix4 0 0 0 l) * Ideal.ofBits .f32 1035273459#32

/-- The largest score of a key block in a query column. -/
def smax (x0 : FVec Ideal S1x128x256 .fp8e4m3) (x1 : FVec Ideal S1x1x1x256 .f32) (x2 : FVec Ideal S1x8192x128 .fp8e4m3) (x3 : FVec Ideal S1x64x128 .f32) (k : Fin 64) (l : Fin 256) : EReal :=
  Finset.fold max (Ideal.ofBits FTy.f32 4286578688#32) (fun a : Fin 8 => m8 x0 x2 (ix3 k a l)) Finset.univ * cq x1 l * x3 (ix3 0 k (lane l))

/-- The largest score of a query column. -/
def mx (x0 : FVec Ideal S1x128x256 .fp8e4m3) (x1 : FVec Ideal S1x1x1x256 .f32) (x2 : FVec Ideal S1x8192x128 .fp8e4m3) (x3 : FVec Ideal S1x64x128 .f32) (l : Fin 256) : EReal :=
  Finset.fold max (Ideal.ofBits FTy.f32 4286578688#32) (fun k : Fin 64 => smax x0 x1 x2 x3 k l) Finset.univ

/-- The largest weight of a key block over the 128 columns of a query block. -/
def wmax (x0 : FVec Ideal S1x128x256 .fp8e4m3) (x1 : FVec Ideal S1x1x1x256 .f32) (x2 : FVec Ideal S1x8192x128 .fp8e4m3) (x3 : FVec Ideal S1x64x128 .f32) (k : Fin 64) (l : Fin 256) : EReal :=
  Ideal.exp (Finset.fold max (Ideal.ofBits FTy.f32 4286578688#32) (fun b : Fin 128 => smax x0 x1 x2 x3 k (laneBase l b) - mx x0 x1 x2 x3 (laneBase l b)) Finset.univ)

/-- The exponent of the power of two that scales the weights of a key block. -/
def eW (x0 : FVec Ideal S1x128x256 .fp8e4m3) (x1 : FVec Ideal S1x1x1x256 .f32) (x2 : FVec Ideal S1x8192x128 .fp8e4m3) (x3 : FVec Ideal S1x64x128 .f32) (k : Fin 64) (l : Fin 256) : BitVec 32 := kexp (wmax x0 x1 x2 x3 k l)

/-- What a raw score is multiplied by before it goes into the power of two. -/
def C1 (x1 : FVec Ideal S1x1x1x256 .f32) (x3 : FVec Ideal S1x64x128 .f32) : FVec Ideal S64x256 .f32 := fun j =>
  cq x1 (j 1) * Named.named κ "log2e" 0x3FB8AA3B#32 * x3 (ix3 0 (j 0) (lane (j 1)))

/-- What is subtracted before the power of two: the column maximum and the block's exponent. -/
def BQ (x0 : FVec Ideal S1x128x256 .fp8e4m3) (x1 : FVec Ideal S1x1x1x256 .f32) (x2 : FVec Ideal S1x8192x128 .fp8e4m3) (x3 : FVec Ideal S1x64x128 .f32) : FVec Ideal S64x256 .f32 := fun j =>
  mx x0 x1 x2 x3 (j 1) * Named.named κ "log2e" 0x3FB8AA3B#32 + (((eW x0 x1 x2 x3 (j 0) (j 1)).toInt : ℝ) : EReal)

/-- The scale of a block of weights. -/
def PS (x0 : FVec Ideal S1x128x256 .fp8e4m3) (x1 : FVec Ideal S1x1x1x256 .f32) (x2 : FVec Ideal S1x8192x128 .fp8e4m3) (x3 : FVec Ideal S1x64x128 .f32) : FVec Ideal S64x256 .f32 := fun j =>
  Ideal.ofBits .f32 (IntOp.shli .vector (IntOp.addi (eW x0 x1 x2 x3 (j 0) (j 1)) 127#32) 23#32)

/-- The scale of a block of weights times the scale of the value block. -/
def SC (x0 : FVec Ideal S1x128x256 .fp8e4m3) (x1 : FVec Ideal S1x1x1x256 .f32) (x2 : FVec Ideal S1x8192x128 .fp8e4m3) (x3 : FVec Ideal S1x64x128 .f32) (x5 : FVec Ideal S1x64x128 .f32) : FVec Ideal S64x256 .f32 := fun j =>
  PS x0 x1 x2 x3 j * x5 (ix3 0 (j 0) (lane (j 1)))

/-- A read of a rectangle of a four-axis buffer, at one entry. -/
theorem rd4 {A B C D a b c d : ℕ} {φ : EltTy} {m : Memref sig .tc .vmem ⟨4, ![A, B, C, D]⟩ φ} (h : m.IsWhole) (X : Shape.Idx ⟨4, ![A, B, C, D]⟩ → Elt Ideal φ) {o0 o1 o2 o3 : ℕ}
    (inb : ∀ i, (![o0, o1, o2, o3] : Fin 4 → ℕ) i + (![a, b, c, d] : Fin 4 → ℕ) i ≤ (⟨4, ![A, B, C, D]⟩ : Shape).size i) (i0 : Fin a) (i1 : Fin b) (i2 : Fin c) (i3 : Fin d)
    (j0 : Fin A) (j1 : Fin B) (j2 : Fin C) (j3 : Fin D) (h0 : j0.val = o0 + i0.val) (h1 : j1.val = o1 + i1.val) (h2 : j2.val = o2 + i2.val) (h3 : j3.val = o3 + i3.val) :
    View.readAt (Elt Ideal) m.view (Rect.unit (s := ⟨4, ![A, B, C, D]⟩) ![o0, o1, o2, o3] ![a, b, c, d] inb).toLoadRect (h.unread X) (ix4 i0 i1 i2 i3) = X (ix4 j0 j1 j2 j3) := by
  rw [Memref.IsWhole.readAt_unread]
  refine congrArg X (funext fun a => Fin.ext ?_)
  fin_cases a
  · exact (congrArg (o0 + ·) (Nat.one_mul i0.val)).trans h0.symm
  · exact (congrArg (o1 + ·) (Nat.one_mul i1.val)).trans h1.symm
  · exact (congrArg (o2 + ·) (Nat.one_mul i2.val)).trans h2.symm
  · exact (congrArg (o3 + ·) (Nat.one_mul i3.val)).trans h3.symm

section
variable (c : Dev nD) (arg4 : Memref sig .tc .vmem S1x128x256 .fp8e4m3) (harg4 : arg4.IsWhole) (arg5 : Memref sig .tc .vmem S1x1x1x256 .f32) (harg5 : arg5.IsWhole) (arg6 : Memref sig .tc .vmem S1x8192x128 .fp8e4m3) (harg6 : arg6.IsWhole) (arg7 : Memref sig .tc .vmem S1x64x128 .f32) (harg7 : arg7.IsWhole) (arg8 : Memref sig .tc .vmem S1x128x8192 .fp8e4m3) (harg8 : arg8.IsWhole) (arg9 : Memref sig .tc .vmem S1x64x128 .f32) (harg9 : arg9.IsWhole) (arg10 : Memref sig .tc .vmem S1x128x256 .bf16) (harg10 : arg10.IsWhole) (arg11 : Memref sig .tc .vmem S8192x256 .f32) (harg11 : arg11.IsWhole) (arg12 : Memref sig .tc .vmem S64x8x256 .f32) (harg12 : arg12.IsWhole) (arg13 : Memref sig .tc .vmem S64x256 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S64x256 .f32) (harg16 : arg16.IsWhole) (arg17 : Memref sig .tc .vmem S128x256 .f32) (harg17 : arg17.IsWhole) (arg18 : Memref sig .tc .vmem S8x256 .f32) (harg18 : arg18.IsWhole) (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32)

/-- The queries' scales times the softmax scale, one per query column. -/
theorem v712_at (l : Fin 256) : (kernelRun1_A.sl.v712 (F := Ideal) c arg5 harg5 x1) (ix2 0 l) = cq x1 l := by
  unfold kernelRun1_A.sl.v712 kernelRun1_A.sl.v710 kernelRun1_A.sl.v711 kernelRun1_A.sl.cst_522
  pointwise [cq]
  refine congrArg (fun z : EReal => z * Ideal.ofBits .f32 1035273459#32) ?_
  exact rd4 harg5 x1 _ 0 0 0 l 0 0 0 l rfl rfl rfl (Nat.zero_add _).symm

/-- The keys' scales, repeated for the two heads. -/
theorem v715_at (k : Fin 64) (l : Fin 256) : (kernelRun1_A.sl.v715 (F := Ideal) c arg7 harg7 x3) (ix2 k l) = x3 (ix3 0 k (lane l)) := by
  unfold kernelRun1_A.sl.v715 kernelRun1_A.sl.v714 kernelRun1_A.sl.r_1
  pointwise [lane]
  split
  · exact rd3 harg7 x3 _ 0 _ _ 0 _ _ rfl (Nat.zero_add _).symm (Nat.zero_add _).symm
  · exact rd3 harg7 x3 _ 0 _ _ 0 _ _ rfl (Nat.zero_add _).symm (Nat.zero_add _).symm

/-- The values' scales, repeated for the two heads. -/
theorem v718_at (k : Fin 64) (l : Fin 256) : (kernelRun1_A.sl.v718 (F := Ideal) c arg9 harg9 x5) (ix2 k l) = x5 (ix3 0 k (lane l)) := by
  unfold kernelRun1_A.sl.v718 kernelRun1_A.sl.v717
  pointwise [lane]
  split
  · exact rd3 harg9 x5 _ 0 _ _ 0 _ _ rfl (Nat.zero_add _).symm (Nat.zero_add _).symm
  · exact rd3 harg9 x5 _ 0 _ _ 0 _ _ rfl (Nat.zero_add _).symm (Nat.zero_add _).symm

/-- The partial maxima as the kernel reads them back. -/
theorem v719_at (k : Fin 64) (a : Fin 8) (l : Fin 256) : (kernelRun1_A.sl.v719 (F := Ideal) c arg4 harg4 arg6 harg6 arg12 x0 x2) (ix3 k a l) = m8 x0 x2 (ix3 k a l) := by
  unfold kernelRun1_A.sl.v719
  rw [HS1_read]
  exact congrArg (m8 x0 x2) (emb3 _ k a l k a l (Nat.zero_add _).symm (Nat.zero_add _).symm (Nat.zero_add _).symm)

/-- The largest scaled score of each key block and query column. -/
theorem v723_at (k : Fin 64) (l : Fin 256) : (kernelRun1_A.sl.v723 (F := Ideal) c arg4 harg4 arg5 harg5 arg6 harg6 arg7 harg7 arg12 x0 x1 x2 x3) (ix2 k l) = smax x0 x1 x2 x3 k l := by
  unfold kernelRun1_A.sl.v723 kernelRun1_A.sl.v722 kernelRun1_A.sl.v720 kernelRun1_A.sl.v721
  have h1 := v712_at c arg5 harg5 x1
  have h2 := v715_at c arg7 harg7 x3
  have h3 := v719_at c arg4 harg4 arg6 harg6 arg12 x0 x2
  generalize (kernelRun1_A.sl.v712 (F := Ideal) c arg5 harg5 x1) = A at *
  generalize (kernelRun1_A.sl.v715 (F := Ideal) c arg7 harg7 x3) = B at *
  generalize (kernelRun1_A.sl.v719 (F := Ideal) c arg4 harg4 arg6 harg6 arg12 x0 x2) = C at *
  pointwise [smax, h1, h2, h3]

/-- The largest scaled score of each query column. -/
theorem v725_at (l : Fin 256) : (kernelRun1_A.sl.v725 (F := Ideal) c arg4 harg4 arg5 harg5 arg6 harg6 arg7 harg7 arg12 x0 x1 x2 x3) (ix2 0 l) = mx x0 x1 x2 x3 l := by
  unfold kernelRun1_A.sl.v725 kernelRun1_A.sl.v724
  have h1 := v723_at c arg4 harg4 arg5 harg5 arg6 harg6 arg7 harg7 arg12 x0 x1 x2 x3
  generalize (kernelRun1_A.sl.v723 (F := Ideal) c arg4 harg4 arg5 harg5 arg6 harg6 arg7 harg7 arg12 x0 x1 x2 x3) = A at *
  pointwise [mx, h1]

/-- The largest weight of each key block over its query block's columns. -/
theorem v739_at (k : Fin 64) (l : Fin 256) : (kernelRun1_A.sl.v739 (F := Ideal) c arg4 harg4 arg5 harg5 arg6 harg6 arg7 harg7 arg12 x0 x1 x2 x3) (ix2 k l) = wmax x0 x1 x2 x3 k l := by
  unfold kernelRun1_A.sl.v739 kernelRun1_A.sl.v738 kernelRun1_A.sl.v737 kernelRun1_A.sl.v736 kernelRun1_A.sl.v735 kernelRun1_A.sl.v734 kernelRun1_A.sl.v733 kernelRun1_A.sl.v732 kernelRun1_A.sl.v731 kernelRun1_A.sl.v730 kernelRun1_A.sl.v729 kernelRun1_A.sl.v728 kernelRun1_A.sl.v727 kernelRun1_A.sl.v726
  have h1 := v723_at c arg4 harg4 arg5 harg5 arg6 harg6 arg7 harg7 arg12 x0 x1 x2 x3
  have h2 := v725_at c arg4 harg4 arg5 harg5 arg6 harg6 arg7 harg7 arg12 x0 x1 x2 x3
  generalize (kernelRun1_A.sl.v723 (F := Ideal) c arg4 harg4 arg5 harg5 arg6 harg6 arg7 harg7 arg12 x0 x1 x2 x3) = A at *
  generalize (kernelRun1_A.sl.v725 (F := Ideal) c arg4 harg4 arg5 harg5 arg6 harg6 arg7 harg7 arg12 x0 x1 x2 x3) = B at *
  pointwise [wmax, h1, h2, laneBase]
  by_cases h : l.val < 128
  · simp only [h, if_true, dif_pos]
  · simp only [h, if_false, dif_neg, not_false_eq_true]

/-- The exponents of the blocks of weights are the kernel's search applied to those largest weights. -/
theorem exp_at (k : Fin 64) (l : Fin 256) : select (kernelRun1_A.sl.v802 (F := Ideal) c arg4 harg4 arg5 harg5 arg6 harg6 arg7 harg7 arg12 x0 x1 x2 x3) (kernelRun1_A.sl.v800 (F := Ideal) c arg4 harg4 arg5 harg5 arg6 harg6 arg7 harg7 arg12 x0 x1 x2 x3) (broadcast S64x256 0#32) (ix2 k l) = kexp (wmax x0 x1 x2 x3 k l) :=
  (congrFun (rfl : select (kernelRun1_A.sl.v802 (F := Ideal) c arg4 harg4 arg5 harg5 arg6 harg6 arg7 harg7 arg12 x0 x1 x2 x3) (kernelRun1_A.sl.v800 (F := Ideal) c arg4 harg4 arg5 harg5 arg6 harg6 arg7 harg7 arg12 x0 x1 x2 x3) (broadcast S64x256 0#32) = kv (kernelRun1_A.sl.v739 (F := Ideal) c arg4 harg4 arg5 harg5 arg6 harg6 arg7 harg7 arg12 x0 x1 x2 x3)) (ix2 k l)).trans
    ((kv_at (kernelRun1_A.sl.v739 (F := Ideal) c arg4 harg4 arg5 harg5 arg6 harg6 arg7 harg7 arg12 x0 x1 x2 x3) (ix2 k l)).trans (congrArg kexp (v739_at c arg4 harg4 arg5 harg5 arg6 harg6 arg7 harg7 arg12 x0 x1 x2 x3 k l)))

/-- What the kernel stores as the factor of the raw scores. -/
theorem pay217_at (k : Fin 64) (l : Fin 256) : k1_pay217 (F := Ideal) (kernelRun1_A.sl.v712 (F := Ideal) c arg5 harg5 x1) (kernelRun1_A.sl.v715 (F := Ideal) c arg7 harg7 x3) (ix2 k l) = C1 x1 x3 (ix2 k l) := by
  have h1 := v712_at c arg5 harg5 x1
  have h2 := v715_at c arg7 harg7 x3
  generalize (kernelRun1_A.sl.v712 (F := Ideal) c arg5 harg5 x1) = A at *
  generalize (kernelRun1_A.sl.v715 (F := Ideal) c arg7 harg7 x3) = B at *
  pointwise [k1_pay217, C1, h1, h2]

/-- The buffer of factors of the raw scores: a read of any rectangle gives the entries of `C1`. -/
theorem HS2_read (B : LoadRect S64x256) : arg13.view.readCov (Val := Elt Ideal) (kernelRun1_A.sl.HS2_1 (F := Ideal) c arg5 harg5 arg7 harg7 x1 x3) B = fun j => C1 x1 x3 (B.idx j) := by
  rw [View.readCov_eq_canon']
  funext j
  refine View.canon_apply_of_pieces (Val := Elt Ideal) (e := .f32) (C1 x1 x3) _ ?_ _ (View.cover_of_tiledL (s := S64x256) (kernelRun1_A.sl.HS2_1 (F := Ideal) c arg5 harg5 arg7 harg7 x1 x3) S64x256.size (by sl_kernel_rfl) _)
  unfold kernelRun1_A.sl.HS2_1
  refine List.forall_mem_cons.2 ⟨fun i => ?_, fun p hp => absurd hp List.not_mem_nil⟩
  idx_vars i
  refine (pay217_at c arg5 harg5 arg7 harg7 x1 x3 _ _).trans ?_
  exact congrArg _ (emb2 (by decide) i0 i1 i0 i1 (Nat.zero_add _).symm (Nat.zero_add _).symm).symm

/-- What the kernel stores to be subtracted before the power of two. -/
theorem pay218_at (k : Fin 64) (l : Fin 256) : k1_pay218 (F := Ideal) (kernelRun1_A.sl.v725 (F := Ideal) c arg4 harg4 arg5 harg5 arg6 harg6 arg7 harg7 arg12 x0 x1 x2 x3) (kernelRun1_A.sl.v800 (F := Ideal) c arg4 harg4 arg5 harg5 arg6 harg6 arg7 harg7 arg12 x0 x1 x2 x3) (kernelRun1_A.sl.v802 (F := Ideal) c arg4 harg4 arg5 harg5 arg6 harg6 arg7 harg7 arg12 x0 x1 x2 x3) 0#32 (ix2 k l) = BQ x0 x1 x2 x3 (ix2 k l) := by
  have he := exp_at c arg4 harg4 arg5 harg5 arg6 harg6 arg7 harg7 arg12 x0 x1 x2 x3
  have h1 := v725_at c arg4 harg4 arg5 harg5 arg6 harg6 arg7 harg7 arg12 x0 x1 x2 x3
  generalize (kernelRun1_A.sl.v800 (F := Ideal) c arg4 harg4 arg5 harg5 arg6 harg6 arg7 harg7 arg12 x0 x1 x2 x3) = E at *
  generalize (kernelRun1_A.sl.v802 (F := Ideal) c arg4 harg4 arg5 harg5 arg6 harg6 arg7 harg7 arg12 x0 x1 x2 x3) = G at *
  generalize (kernelRun1_A.sl.v725 (F := Ideal) c arg4 harg4 arg5 harg5 arg6 harg6 arg7 harg7 arg12 x0 x1 x2 x3) = A at *
  have he2 : ∀ (k : Fin 64) (l : Fin 256), k1_pay215 E G 0#32 (ix2 k l) = eW x0 x1 x2 x3 k l := he
  generalize hD : k1_pay215 E G 0#32 = D at *
  unfold k1_pay218
  rw [hD]
  pointwise [BQ, he2, h1]
  rfl

/-- The buffer of subtrahends: a read of any rectangle gives the entries of `BQ`. -/
theorem HS3_read (B : LoadRect S64x256) : arg14.view.readCov (Val := Elt Ideal) (kernelRun1_A.sl.HS3_1 (F := Ideal) c arg4 harg4 arg5 harg5 arg6 harg6 arg7 harg7 arg12 x0 x1 x2 x3) B = fun j => BQ x0 x1 x2 x3 (B.idx j) := by
  rw [View.readCov_eq_canon']
  funext j
  refine View.canon_apply_of_pieces (Val := Elt Ideal) (e := .f32) (BQ x0 x1 x2 x3) _ ?_ _ (View.cover_of_tiledL (s := S64x256) (kernelRun1_A.sl.HS3_1 (F := Ideal) c arg4 harg4 arg5 harg5 arg6 harg6 arg7 harg7 arg12 x0 x1 x2 x3) S64x256.size (by sl_kernel_rfl) _)
  unfold kernelRun1_A.sl.HS3_1
  refine List.forall_mem_cons.2 ⟨fun i => ?_, fun p hp => absurd hp List.not_mem_nil⟩
  idx_vars i
  refine (pay218_at c arg4 harg4 arg5 harg5 arg6 harg6 arg7 harg7 arg12 x0 x1 x2 x3 _ _).trans ?_
  exact congrArg _ (emb2 (by decide) i0 i1 i0 i1 (Nat.zero_add _).symm (Nat.zero_add _).symm).symm

/-- What the kernel stores as the scale of each block of weights. -/
theorem pay219_at (k : Fin 64) (l : Fin 256) : k1_pay219 (F := Ideal) (kernelRun1_A.sl.v800 (F := Ideal) c arg4 harg4 arg5 harg5 arg6 harg6 arg7 harg7 arg12 x0 x1 x2 x3) (kernelRun1_A.sl.v802 (F := Ideal) c arg4 harg4 arg5 harg5 arg6 harg6 arg7 harg7 arg12 x0 x1 x2 x3) 0#32 (ix2 k l) = PS x0 x1 x2 x3 (ix2 k l) := by
  have he := exp_at c arg4 harg4 arg5 harg5 arg6 harg6 arg7 harg7 arg12 x0 x1 x2 x3
  generalize (kernelRun1_A.sl.v800 (F := Ideal) c arg4 harg4 arg5 harg5 arg6 harg6 arg7 harg7 arg12 x0 x1 x2 x3) = E at *
  generalize (kernelRun1_A.sl.v802 (F := Ideal) c arg4 harg4 arg5 harg5 arg6 harg6 arg7 harg7 arg12 x0 x1 x2 x3) = G at *
  have he2 : ∀ (k : Fin 64) (l : Fin 256), k1_pay215 E G 0#32 (ix2 k l) = eW x0 x1 x2 x3 k l := he
  generalize hD : k1_pay215 E G 0#32 = D at *
  unfold k1_pay219 k1_pay216
  rw [hD]
  pointwise [PS, he2]

/-- The buffer of weight scales: a read of any rectangle gives the entries of `PS`. -/
theorem HS4_read (B : LoadRect S64x256) : arg15.view.readCov (Val := Elt Ideal) (kernelRun1_A.sl.HS4_1 (F := Ideal) c arg4 harg4 arg5 harg5 arg6 harg6 arg7 harg7 arg12 x0 x1 x2 x3) B = fun j => PS x0 x1 x2 x3 (B.idx j) := by
  rw [View.readCov_eq_canon']
  funext j
  refine View.canon_apply_of_pieces (Val := Elt Ideal) (e := .f32) (PS x0 x1 x2 x3) _ ?_ _ (View.cover_of_tiledL (s := S64x256) (kernelRun1_A.sl.HS4_1 (F := Ideal) c arg4 harg4 arg5 harg5 arg6 harg6 arg7 harg7 arg12 x0 x1 x2 x3) S64x256.size (by sl_kernel_rfl) _)
  unfold kernelRun1_A.sl.HS4_1
  refine List.forall_mem_cons.2 ⟨fun i => ?_, fun p hp => absurd hp List.not_mem_nil⟩
  idx_vars i
  refine (pay219_at c arg4 harg4 arg5 harg5 arg6 harg6 arg7 harg7 arg12 x0 x1 x2 x3 _ _).trans ?_
  exact congrArg _ (emb2 (by decide) i0 i1 i0 i1 (Nat.zero_add _).symm (Nat.zero_add _).symm).symm

/-- What the kernel stores as the scale of each block of products. -/
theorem pay220_at (k : Fin 64) (l : Fin 256) : k1_pay220 (F := Ideal) (kernelRun1_A.sl.v718 (F := Ideal) c arg9 harg9 x5) (kernelRun1_A.sl.v800 (F := Ideal) c arg4 harg4 arg5 harg5 arg6 harg6 arg7 harg7 arg12 x0 x1 x2 x3) (kernelRun1_A.sl.v802 (F := Ideal) c arg4 harg4 arg5 harg5 arg6 harg6 arg7 harg7 arg12 x0 x1 x2 x3) 0#32 (ix2 k l) = SC x0 x1 x2 x3 x5 (ix2 k l) := by
  have he := exp_at c arg4 harg4 arg5 harg5 arg6 harg6 arg7 harg7 arg12 x0 x1 x2 x3
  have h1 := v718_at c arg9 harg9 x5
  generalize (kernelRun1_A.sl.v800 (F := Ideal) c arg4 harg4 arg5 harg5 arg6 harg6 arg7 harg7 arg12 x0 x1 x2 x3) = E at *
  generalize (kernelRun1_A.sl.v802 (F := Ideal) c arg4 harg4 arg5 harg5 arg6 harg6 arg7 harg7 arg12 x0 x1 x2 x3) = G at *
  generalize (kernelRun1_A.sl.v718 (F := Ideal) c arg9 harg9 x5) = A at *
  have he2 : ∀ (k : Fin 64) (l : Fin 256), k1_pay215 E G 0#32 (ix2 k l) = eW x0 x1 x2 x3 k l := he
  generalize hD : k1_pay215 E G 0#32 = D at *
  unfold k1_pay220 k1_pay216
  rw [hD]
  pointwise [SC, PS, he2, h1]

/-- The buffer of product scales: a read of any rectangle gives the entries of `SC`. -/
theorem HS5_read (B : LoadRect S64x256) : arg16.view.readCov (Val := Elt Ideal) (kernelRun1_A.sl.HS5_1 (F := Ideal) c arg4 harg4 arg5 harg5 arg6 harg6 arg7 harg7 arg9 harg9 arg12 x0 x1 x2 x3 x5) B = fun j => SC x0 x1 x2 x3 x5 (B.idx j) := by
  rw [View.readCov_eq_canon']
  funext j
  refine View.canon_apply_of_pieces (Val := Elt Ideal) (e := .f32) (SC x0 x1 x2 x3 x5) _ ?_ _ (View.cover_of_tiledL (s := S64x256) (kernelRun1_A.sl.HS5_1 (F := Ideal) c arg4 harg4 arg5 harg5 arg6 harg6 arg7 harg7 arg9 harg9 arg12 x0 x1 x2 x3 x5) S64x256.size (by sl_kernel_rfl) _)
  unfold kernelRun1_A.sl.HS5_1
  refine List.forall_mem_cons.2 ⟨fun i => ?_, fun p hp => absurd hp List.not_mem_nil⟩
  idx_vars i
  refine (pay220_at c arg4 harg4 arg5 harg5 arg6 harg6 arg7 harg7 arg9 harg9 arg12 x0 x1 x2 x3 x5 _ _).trans ?_
  exact congrArg _ (emb2 (by decide) i0 i1 i0 i1 (Nat.zero_add _).symm (Nat.zero_add _).symm).symm

end
-- ==== Proof.AttnStep.lean ====
module

public import proofs.«01_k».proof.Proof.Gen.KernelIdeal.Frame
public import Idealize.ShloMosaic.Lib.Pointwise
public import Idealize.ShloMosaic.Lib.Pipeline.ValueKit
public import proofs.«01_k».proof.Proof.AttnMiddle

@[expose] public section

set_option maxRecDepth 16384

noncomputable section

namespace Cert.KernelIdeal.Val

open Idealize.ShloMosaic Idealize.ShloMosaic.TcCoe Idealize.SL.Sem
open Cert.KernelIdeal Cert.KernelIdeal.Gen
open Cert.Val

/-- A weight of key block `n` (row `a` of the block, query column `l`), divided by the block's scale. -/
def pw (x0 : FVec Ideal S1x128x256 .fp8e4m3) (x1 : FVec Ideal S1x1x1x256 .f32) (x2 : FVec Ideal S1x8192x128 .fp8e4m3) (x3 : FVec Ideal S1x64x128 .f32) (n : Fin 64) (a : Fin 128) (l : Fin 256) : EReal :=
  Ideal.exp2 (raw x0 x2 (ix2 ⟨n.val * 128 + a.val, by omega⟩ l) * C1 x1 x3 (ix2 n l) - BQ x0 x1 x2 x3 (ix2 n l))

/-- What key block `n` adds to row `r` of the eight partial sums of the weights. -/
def lStep (x0 : FVec Ideal S1x128x256 .fp8e4m3) (x1 : FVec Ideal S1x1x1x256 .f32) (x2 : FVec Ideal S1x8192x128 .fp8e4m3) (x3 : FVec Ideal S1x64x128 .f32) (n : Fin 64) (r : Fin 8) (l : Fin 256) : EReal :=
  (∑ b : Fin 16, pw x0 x1 x2 x3 n ⟨b.val * 8 + r.val, by omega⟩ l) * PS x0 x1 x2 x3 (ix2 n l)

/-- What key block `n` adds to the accumulator: the product of the value codes and the weight codes, rescaled. -/
def aStep (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (n : Fin 64) (d : Fin 128) (l : Fin 256) : EReal :=
  (∑ a : Fin 128, x4 (ix3 0 d ⟨n.val * 128 + a.val, by omega⟩) * min (Ideal.ofBits .f32 1138753536#32) (max (Ideal.ofBits .f32 3286237184#32) (pw x0 x1 x2 x3 n a l))) * SC x0 x1 x2 x3 x5 (ix2 n l)

/-- The partial sums of the weights after the first `n` key blocks. -/
def lAcc (x0 : FVec Ideal S1x128x256 .fp8e4m3) (x1 : FVec Ideal S1x1x1x256 .f32) (x2 : FVec Ideal S1x8192x128 .fp8e4m3) (x3 : FVec Ideal S1x64x128 .f32) (n : ℕ) (r : Fin 8) (l : Fin 256) : EReal := ∑ k ∈ Finset.range n, lStep x0 x1 x2 x3 (Fin.ofNat 64 k) r l

/-- The accumulator after the first `n` key blocks. -/
def aAcc (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (n : ℕ) (d : Fin 128) (l : Fin 256) : EReal := ∑ k ∈ Finset.range n, aStep x0 x1 x2 x3 x4 x5 (Fin.ofNat 64 k) d l

/-- The kernel's weights of one key block, from the block's rows of the stored arrays, are `pw`. -/
theorem pw_gen (x0 : FVec Ideal S1x128x256 .fp8e4m3) (x1 : FVec Ideal S1x1x1x256 .f32) (x2 : FVec Ideal S1x8192x128 .fp8e4m3) (x3 : FVec Ideal S1x64x128 .f32) (n : Fin 64) (S : FVec Ideal S128x256 .f32) (C B : FVec Ideal S1x256 .f32) (h h')
    (hS : ∀ a l, S (ix2 a l) = raw x0 x2 (ix2 ⟨n.val * 128 + a.val, by omega⟩ l)) (hC : ∀ l, C (ix2 0 l) = C1 x1 x3 (ix2 n l)) (hB : ∀ l, B (ix2 0 l) = BQ x0 x1 x2 x3 (ix2 n l)) (a : Fin 128) (l : Fin 256) :
    exp2 (subf (mulf S (broadcastTo S128x256 C h)) (broadcastTo S128x256 B h')) (ix2 a l) = pw x0 x1 x2 x3 n a l := by
  pointwise [pw, hS, hC, hB]
  rfl

/-- If the partial sums hold the first `n` key blocks, then with block `n` added they hold the first `n + 1`. -/
theorem l_gen (x0 : FVec Ideal S1x128x256 .fp8e4m3) (x1 : FVec Ideal S1x1x1x256 .f32) (x2 : FVec Ideal S1x8192x128 .fp8e4m3) (x3 : FVec Ideal S1x64x128 .f32) (n : Fin 64) (P : FVec Ideal S128x256 .f32) (hP : ∀ a l, P (ix2 a l) = pw x0 x1 x2 x3 n a l)
    (R : FVec Ideal S1x256 .f32) (hR : ∀ l, R (ix2 0 l) = PS x0 x1 x2 x3 (ix2 n l)) (Q : FVec Ideal S8x256 .f32)
    (hQ : ∀ r l, Q (ix2 r l) = lAcc x0 x1 x2 x3 n.val r l) (h1) (h2) (h3) (h4) (h5) (h6) (r : Fin 8) (l : Fin 256) :
    shapeCast S8x256 (addf Q (mulf (multiReduction FKind.add [0] S8x256 (shapeCast S16x8x256 P h1) 0#32 h2 h3 h4) (broadcastTo S8x256 R h5))) h6 (ix2 r l) = lAcc x0 x1 x2 x3 (n.val + 1) r l := by
  have hn : Fin.ofNat 64 n.val = n := Fin.ext (Nat.mod_eq_of_lt n.isLt)
  rw [lAcc, Finset.sum_range_succ, ← lAcc, hn]
  pointwise [hP, hR, hQ, lStep]

/-- If the accumulator holds the first `n` key blocks, then with block `n` added it holds the first `n + 1`. -/
theorem a_gen (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (n : Fin 64) (P : FVec Ideal S128x256 .f32) (hP : ∀ a l, P (ix2 a l) = pw x0 x1 x2 x3 n a l)
    (R : FVec Ideal S1x256 .f32) (hR : ∀ l, R (ix2 0 l) = SC x0 x1 x2 x3 x5 (ix2 n l)) (Q : FVec Ideal S128x256 .f32)
    (hQ : ∀ d l, Q (ix2 d l) = aAcc x0 x1 x2 x3 x4 x5 n.val d l)
    (V : FVec Ideal S1x128x128 .fp8e4m3) (hV : ∀ d a, V (ix3 0 d a) = x4 (ix3 0 d ⟨n.val * 128 + a.val, by omega⟩)) (h1) (h2) (h3) (h4) (d : Fin 128) (l : Fin 256) :
    shapeCast S128x256 (addf Q (mulf (matmul (F := Ideal) (φ₁ := .fp8e4m3) (φ₂ := .fp8e4m3) dot_S128x128_S128x256_S128x256_1_0_0_1_n_n none (shapeCast S128x128 V h1)
      (truncf FTy.fp8e4m3 (minimumf (broadcast S128x256 (FloatOps.ofBits FTy.f32 1138753536#32)) (maximumf (broadcast S128x256 (FloatOps.ofBits FTy.f32 3286237184#32)) P)) h2)
      (constant S128x256 FTy.f32 0#32)) (broadcastTo S128x256 R h3))) h4 (ix2 d l) = aAcc x0 x1 x2 x3 x4 x5 (n.val + 1) d l := by
  have hn : Fin.ofNat 64 n.val = n := Fin.ext (Nat.mod_eq_of_lt n.isLt)
  rw [aAcc, Finset.sum_range_succ, ← aAcc, hn]
  pointwise [hP, hR, hQ, hV, aStep]

/-- A read of the whole of an accumulator whose last write was of the whole is that write. -/
theorem top8 (v : View sig .tc .vmem S8x256 .f32) (inb inb' : ∀ a, (![0, 0] : Fin 2 → ℕ) a + S8x256.size a ≤ S8x256.size a) (w : S8x256.Idx → Elt Ideal .f32) (L : List (View.Piece (Elt Ideal) S8x256 .f32)) :
    v.readCov (Val := Elt Ideal) (⟨Rect.unit (s := S8x256) ![0, 0] S8x256.size inb, w⟩ :: L) (Rect.unit (s := S8x256) ![0, 0] S8x256.size inb').toLoadRect = w := by
  exact View.readCov_cons_toLoadRect (Val := Elt Ideal) (e := .f32) v (Rect.unit (s := S8x256) ![0, 0] S8x256.size inb) w L

/-- A read of the whole of an accumulator whose last write was of the whole is that write. -/
theorem top128 (v : View sig .tc .vmem S128x256 .f32) (inb inb' : ∀ a, (![0, 0] : Fin 2 → ℕ) a + S128x256.size a ≤ S128x256.size a) (w : S128x256.Idx → Elt Ideal .f32) (L : List (View.Piece (Elt Ideal) S128x256 .f32)) :
    v.readCov (Val := Elt Ideal) (⟨Rect.unit (s := S128x256) ![0, 0] S128x256.size inb, w⟩ :: L) (Rect.unit (s := S128x256) ![0, 0] S128x256.size inb').toLoadRect = w := by
  exact View.readCov_cons_toLoadRect (Val := Elt Ideal) (e := .f32) v (Rect.unit (s := S128x256) ![0, 0] S128x256.size inb) w L

/-- Where an entry of a rectangle that is read lies in a two-axis array. -/
theorem rowIdx {A B a b : ℕ} {o0 o1 : ℕ} (inb) (i0 : Fin a) (i1 : Fin b) (j0 : Fin A) (j1 : Fin B) (h0 : j0.val = o0 + i0.val) (h1 : j1.val = o1 + i1.val) :
    (Rect.unit (s := ⟨2, ![A, B]⟩) ![o0, o1] ![a, b] inb).toLoadRect.idx (ix2 i0 i1) = ix2 j0 j1 := by
  refine funext fun a => Fin.ext ?_
  fin_cases a
  · exact (congrArg (o0 + ·) (Nat.one_mul i0.val)).trans h0.symm
  · exact (congrArg (o1 + ·) (Nat.one_mul i1.val)).trans h1.symm

section
variable (c : Dev nD) (arg4 : Memref sig .tc .vmem S1x128x256 .fp8e4m3) (harg4 : arg4.IsWhole) (arg5 : Memref sig .tc .vmem S1x1x1x256 .f32) (harg5 : arg5.IsWhole) (arg6 : Memref sig .tc .vmem S1x8192x128 .fp8e4m3) (harg6 : arg6.IsWhole) (arg7 : Memref sig .tc .vmem S1x64x128 .f32) (harg7 : arg7.IsWhole) (arg8 : Memref sig .tc .vmem S1x128x8192 .fp8e4m3) (harg8 : arg8.IsWhole) (arg9 : Memref sig .tc .vmem S1x64x128 .f32) (harg9 : arg9.IsWhole) (arg10 : Memref sig .tc .vmem S1x128x256 .bf16) (harg10 : arg10.IsWhole) (arg11 : Memref sig .tc .vmem S8192x256 .f32) (harg11 : arg11.IsWhole) (arg12 : Memref sig .tc .vmem S64x8x256 .f32) (harg12 : arg12.IsWhole) (arg13 : Memref sig .tc .vmem S64x256 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S64x256 .f32) (harg16 : arg16.IsWhole) (arg17 : Memref sig .tc .vmem S128x256 .f32) (harg17 : arg17.IsWhole) (arg18 : Memref sig .tc .vmem S8x256 .f32) (harg18 : arg18.IsWhole) (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32)

/-- Key block `n`'s rows of the score buffer. -/
theorem S_row (n : Fin 64) (o : ℕ) (ho : o = n.val * 128) (inb) (a : Fin 128) (l : Fin 256) :
    arg11.view.readCov (Val := Elt Ideal) (kernelRun1_A.sl.HS0_64 (F := Ideal) c arg4 harg4 arg6 harg6 x0 x2) (Rect.unit (s := S8192x256) ![o, 0] S128x256.size inb).toLoadRect (ix2 a l) = raw x0 x2 (ix2 ⟨n.val * 128 + a.val, by omega⟩ l) := by
  rw [HS0_read]
  exact congrArg (raw x0 x2) (rowIdx inb a l _ l (by simp [ho]) (Nat.zero_add _).symm)

/-- Key block `n`'s row of the factors. -/
theorem C_row (n : Fin 64) (o : ℕ) (ho : o = n.val) (inb) (l : Fin 256) :
    arg13.view.readCov (Val := Elt Ideal) (kernelRun1_A.sl.HS2_1 (F := Ideal) c arg5 harg5 arg7 harg7 x1 x3) (Rect.unit (s := S64x256) ![o, 0] S1x256.size inb).toLoadRect (ix2 0 l) = C1 x1 x3 (ix2 n l) := by
  rw [HS2_read]
  exact congrArg (C1 x1 x3) (rowIdx inb 0 l n l (by simp [ho]) (Nat.zero_add _).symm)

/-- Key block `n`'s row of the subtrahends. -/
theorem B_row (n : Fin 64) (o : ℕ) (ho : o = n.val) (inb) (l : Fin 256) :
    arg14.view.readCov (Val := Elt Ideal) (kernelRun1_A.sl.HS3_1 (F := Ideal) c arg4 harg4 arg5 harg5 arg6 harg6 arg7 harg7 arg12 x0 x1 x2 x3) (Rect.unit (s := S64x256) ![o, 0] S1x256.size inb).toLoadRect (ix2 0 l) = BQ x0 x1 x2 x3 (ix2 n l) := by
  rw [HS3_read]
  exact congrArg (BQ x0 x1 x2 x3) (rowIdx inb 0 l n l (by simp [ho]) (Nat.zero_add _).symm)

/-- Key block `n`'s row of the weight scales. -/
theorem P_row (n : Fin 64) (o : ℕ) (ho : o = n.val) (inb) (l : Fin 256) :
    arg15.view.readCov (Val := Elt Ideal) (kernelRun1_A.sl.HS4_1 (F := Ideal) c arg4 harg4 arg5 harg5 arg6 harg6 arg7 harg7 arg12 x0 x1 x2 x3) (Rect.unit (s := S64x256) ![o, 0] S1x256.size inb).toLoadRect (ix2 0 l) = PS x0 x1 x2 x3 (ix2 n l) := by
  rw [HS4_read]
  exact congrArg (PS x0 x1 x2 x3) (rowIdx inb 0 l n l (by simp [ho]) (Nat.zero_add _).symm)

/-- Key block `n`'s row of the product scales. -/
theorem V_row (n : Fin 64) (o : ℕ) (ho : o = n.val) (inb) (l : Fin 256) :
    arg16.view.readCov (Val := Elt Ideal) (kernelRun1_A.sl.HS5_1 (F := Ideal) c arg4 harg4 arg5 harg5 arg6 harg6 arg7 harg7 arg9 harg9 arg12 x0 x1 x2 x3 x5) (Rect.unit (s := S64x256) ![o, 0] S1x256.size inb).toLoadRect (ix2 0 l) = SC x0 x1 x2 x3 x5 (ix2 n l) := by
  rw [HS5_read]
  exact congrArg (SC x0 x1 x2 x3 x5) (rowIdx inb 0 l n l (by simp [ho]) (Nat.zero_add _).symm)

/-- The partial sums start at zero. -/
theorem L_0 (r : Fin 8) (l : Fin 256) : (kernelRun1_A.sl.v848 (F := Ideal) c arg18) (ix2 r l) = lAcc x0 x1 x2 x3 0 r l := by
  refine (congrFun (top8 arg18.view (by decide) (by decide) (k1_pay222 (F := Ideal)) []) (ix2 r l)).trans ?_
  rw [lAcc, Finset.sum_range_zero]
  pointwise [k1_pay222]

/-- The accumulator starts at zero. -/
theorem A_0 (d : Fin 128) (l : Fin 256) : (kernelRun1_A.sl.v866 (F := Ideal) c arg17) (ix2 d l) = aAcc x0 x1 x2 x3 x4 x5 0 d l := by
  refine (congrFun (top128 arg17.view (by decide) (by decide) (k1_pay221 (F := Ideal)) []) (ix2 d l)).trans ?_
  rw [aAcc, Finset.sum_range_zero]
  pointwise [k1_pay221]

end

end Cert.KernelIdeal.Val
-- ==== Proof.AttnLoop.lean ====
module

public import proofs.«01_k».proof.Proof.Gen.KernelIdeal.Frame
public import Idealize.ShloMosaic.Lib.Pointwise
public import Idealize.ShloMosaic.Lib.Pipeline.ValueKit
public import proofs.«01_k».proof.Proof.AttnStep

@[expose] public section

set_option maxRecDepth 16384

noncomputable section

namespace Cert.KernelIdeal.Val

open Idealize.ShloMosaic Idealize.ShloMosaic.TcCoe Idealize.SL.Sem
open Cert.KernelIdeal Cert.KernelIdeal.Gen
open Cert.Val

/-- The two accumulators after the first `n` key blocks: `L` holds the partial sums of the weights, `A` the weighted
sum of the values. -/
def Folded (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (n : ℕ) (L : FVec Ideal S8x256 .f32) (A : FVec Ideal S128x256 .f32) : Prop :=
  (∀ r l, L (ix2 r l) = lAcc x0 x1 x2 x3 n r l) ∧ ∀ d l, A (ix2 d l) = aAcc x0 x1 x2 x3 x4 x5 n d l

section
variable (c : Dev nD) (arg4 : Memref sig .tc .vmem S1x128x256 .fp8e4m3) (harg4 : arg4.IsWhole) (arg5 : Memref sig .tc .vmem S1x1x1x256 .f32) (harg5 : arg5.IsWhole) (arg6 : Memref sig .tc .vmem S1x8192x128 .fp8e4m3) (harg6 : arg6.IsWhole) (arg7 : Memref sig .tc .vmem S1x64x128 .f32) (harg7 : arg7.IsWhole) (arg8 : Memref sig .tc .vmem S1x128x8192 .fp8e4m3) (harg8 : arg8.IsWhole) (arg9 : Memref sig .tc .vmem S1x64x128 .f32) (harg9 : arg9.IsWhole) (arg10 : Memref sig .tc .vmem S1x128x256 .bf16) (harg10 : arg10.IsWhole) (arg11 : Memref sig .tc .vmem S8192x256 .f32) (harg11 : arg11.IsWhole) (arg12 : Memref sig .tc .vmem S64x8x256 .f32) (harg12 : arg12.IsWhole) (arg13 : Memref sig .tc .vmem S64x256 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S64x256 .f32) (harg16 : arg16.IsWhole) (arg17 : Memref sig .tc .vmem S128x256 .f32) (harg17 : arg17.IsWhole) (arg18 : Memref sig .tc .vmem S8x256 .f32) (harg18 : arg18.IsWhole) (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32)

/-- One iteration of the loop over key blocks, for any block `n`: if the accumulators hold the first `n` blocks, then
what they read as after the iteration's two writes holds the first `n + 1`. -/
theorem folded_step {n o : ℕ} (hn : n < 64) (ho : o = n * 128) {Q : FVec Ideal S8x256 .f32} {A : FVec Ideal S128x256 .f32} (h : Folded x0 x1 x2 x3 x4 x5 n Q A)
    {i1 i2 i3 i4 i5 i6 i7} {b1 b2 b3 b4 b5 b6 b7 b8 b9 b10 b11 b12 b13 b14} {HL : List (View.Piece (Elt Ideal) S8x256 .f32)} {HA : List (View.Piece (Elt Ideal) S128x256 .f32)} :
    Folded x0 x1 x2 x3 x4 x5 (n + 1)
      (arg18.view.readCov (Val := Elt Ideal) (⟨Rect.unit (s := S8x256) ![0, 0] S8x256.size i3,
        shapeCast S8x256 (addf Q (mulf (multiReduction FKind.add [0] S8x256 (shapeCast S16x8x256
          (exp2 (subf (mulf (arg11.view.readCov (Val := Elt Ideal) (kernelRun1_A.sl.HS0_64 (F := Ideal) c arg4 harg4 arg6 harg6 x0 x2) (Rect.unit (s := S8192x256) ![o, 0] S128x256.size i1).toLoadRect)
              (broadcastTo S128x256 (arg13.view.readCov (Val := Elt Ideal) (kernelRun1_A.sl.HS2_1 (F := Ideal) c arg5 harg5 arg7 harg7 x1 x3) (Rect.unit (s := S64x256) ![n, 0] S1x256.size i2).toLoadRect) b1))
            (broadcastTo S128x256 (arg14.view.readCov (Val := Elt Ideal) (kernelRun1_A.sl.HS3_1 (F := Ideal) c arg4 harg4 arg5 harg5 arg6 harg6 arg7 harg7 arg12 x0 x1 x2 x3) (Rect.unit (s := S64x256) ![n, 0] S1x256.size i2).toLoadRect) b2)))
          b3) 0#32 b4 b5 b6)
          (broadcastTo S8x256 (arg15.view.readCov (Val := Elt Ideal) (kernelRun1_A.sl.HS4_1 (F := Ideal) c arg4 harg4 arg5 harg5 arg6 harg6 arg7 harg7 arg12 x0 x1 x2 x3) (Rect.unit (s := S64x256) ![n, 0] S1x256.size i2).toLoadRect) b7))) b8⟩ :: HL)
        (Rect.unit (s := S8x256) ![0, 0] S8x256.size i4).toLoadRect)
      (arg17.view.readCov (Val := Elt Ideal) (⟨Rect.unit (s := S128x256) ![0, 0] S128x256.size i5,
        shapeCast S128x256 (addf A (mulf (matmul (F := Ideal) (φ₁ := .fp8e4m3) (φ₂ := .fp8e4m3) dot_S128x128_S128x256_S128x256_1_0_0_1_n_n none
          (shapeCast S128x128 (View.readAt (Elt Ideal) arg8.view (Rect.unit (s := S1x128x8192) ![0, 0, o] S1x128x128.size i7).toLoadRect (harg8.unread x4)) b9)
          (truncf FTy.fp8e4m3 (minimumf (broadcast S128x256 (FloatOps.ofBits FTy.f32 1138753536#32)) (maximumf (broadcast S128x256 (FloatOps.ofBits FTy.f32 3286237184#32))
            (exp2 (subf (mulf (arg11.view.readCov (Val := Elt Ideal) (kernelRun1_A.sl.HS0_64 (F := Ideal) c arg4 harg4 arg6 harg6 x0 x2) (Rect.unit (s := S8192x256) ![o, 0] S128x256.size i1).toLoadRect)
                (broadcastTo S128x256 (arg13.view.readCov (Val := Elt Ideal) (kernelRun1_A.sl.HS2_1 (F := Ideal) c arg5 harg5 arg7 harg7 x1 x3) (Rect.unit (s := S64x256) ![n, 0] S1x256.size i2).toLoadRect) b10))
              (broadcastTo S128x256 (arg14.view.readCov (Val := Elt Ideal) (kernelRun1_A.sl.HS3_1 (F := Ideal) c arg4 harg4 arg5 harg5 arg6 harg6 arg7 harg7 arg12 x0 x1 x2 x3) (Rect.unit (s := S64x256) ![n, 0] S1x256.size i2).toLoadRect) b11))))) b12)
          (constant S128x256 FTy.f32 0#32)) (broadcastTo S128x256 (arg16.view.readCov (Val := Elt Ideal) (kernelRun1_A.sl.HS5_1 (F := Ideal) c arg4 harg4 arg5 harg5 arg6 harg6 arg7 harg7 arg9 harg9 arg12 x0 x1 x2 x3 x5) (Rect.unit (s := S64x256) ![n, 0] S1x256.size i2).toLoadRect) b13))) b14⟩ :: HA)
        (Rect.unit (s := S128x256) ![0, 0] S128x256.size i6).toLoadRect) := by
  have hS := fun q => S_row c arg4 harg4 arg6 harg6 arg11 x0 x2 ⟨n, hn⟩ o ho q
  have hC := fun q => C_row c arg5 harg5 arg7 harg7 arg13 x1 x3 ⟨n, hn⟩ n rfl q
  have hB := fun q => B_row c arg4 harg4 arg5 harg5 arg6 harg6 arg7 harg7 arg12 arg14 x0 x1 x2 x3 ⟨n, hn⟩ n rfl q
  constructor
  · intro r l
    rw [top8]
    exact l_gen x0 x1 x2 x3 ⟨n, hn⟩ _ (pw_gen x0 x1 x2 x3 ⟨n, hn⟩ _ _ _ _ _ (hS _) (hC _) (hB _)) _ (P_row c arg4 harg4 arg5 harg5 arg6 harg6 arg7 harg7 arg12 arg15 x0 x1 x2 x3 ⟨n, hn⟩ n rfl _) Q h.1 _ _ _ _ _ _ r l
  · intro d l
    rw [top128]
    exact a_gen x0 x1 x2 x3 x4 x5 ⟨n, hn⟩ _ (pw_gen x0 x1 x2 x3 ⟨n, hn⟩ _ _ _ _ _ (hS _) (hC _) (hB _)) _ (V_row c arg4 harg4 arg5 harg5 arg6 harg6 arg7 harg7 arg9 harg9 arg12 arg16 x0 x1 x2 x3 x5 ⟨n, hn⟩ n rfl _) A h.2 _
      (fun d a => rd3 harg8 x4 i7 0 d a 0 d _ rfl (Nat.zero_add _).symm (by simp [ho])) _ _ _ _ d l

/-- After the whole loop the two accumulators hold all 64 key blocks. -/
theorem folded_all : Folded x0 x1 x2 x3 x4 x5 64 (kernelRun1_A.sl.v3016 (F := Ideal) c arg4 harg4 arg5 harg5 arg6 harg6 arg7 harg7 arg11 arg12 arg13 arg14 arg15 arg18 x0 x1 x2 x3)
    (kernelRun1_A.sl.v3019 (F := Ideal) c arg4 harg4 arg5 harg5 arg6 harg6 arg7 harg7 arg8 harg8 arg9 harg9 arg11 arg12 arg13 arg14 arg16 arg17 x0 x1 x2 x3 x4 x5) := by
  iterate 64
    refine folded_step c arg4 harg4 arg5 harg5 arg6 harg6 arg7 harg7 arg8 harg8 arg9 harg9 arg11 arg12 arg13 arg14 arg15 arg16 arg17 arg18 x0 x1 x2 x3 x4 x5 (by decide) rfl ?_
  exact ⟨L_0 c arg18 x0 x1 x2 x3, A_0 c arg17 x0 x1 x2 x3 x4 x5⟩

end

end Cert.KernelIdeal.Val
-- ==== Proof.AttnOut.lean ====
module

public import proofs.«01_k».proof.Proof.Gen.KernelIdeal.Frame
public import Idealize.ShloMosaic.Lib.Pointwise
public import Idealize.ShloMosaic.Lib.Pipeline.ValueKit
public import proofs.«01_k».proof.Proof.AttnLoop

@[expose] public section

set_option maxRecDepth 16384

noncomputable section

namespace Cert.KernelIdeal.Val

open Idealize.ShloMosaic Idealize.ShloMosaic.TcCoe Idealize.SL.Sem
open Cert.KernelIdeal Cert.KernelIdeal.Gen
open Cert.Val

/-- The attention of one query column: the accumulator divided by the sum of the weights. -/
def yAt (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (d : Fin 128) (l : Fin 256) : EReal :=
  Ideal.div (aAcc x0 x1 x2 x3 x4 x5 64 d l) (∑ r : Fin 8, lAcc x0 x1 x2 x3 64 r l)

/-- The output block of a grid point: two heads side by side. -/
def yBlk (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) : FVec Ideal S1x128x256 .bf16 := fun j =>
  yAt x0 x1 x2 x3 x4 x5 ⟨(j 2).val % 128, by omega⟩ ⟨(j 2).val / 128 * 128 + (j 1).val, by
    have := (j 1).isLt; have := (j 2).isLt; simp at *; omega⟩

/-- The first head's half of the output block. -/
theorem pay_first (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (L : FVec Ideal S8x256 .f32) (A : FVec Ideal S128x256 .f32) (hL : ∀ r l, L (ix2 r l) = lAcc x0 x1 x2 x3 64 r l) (hA : ∀ d l, A (ix2 d l) = aAcc x0 x1 x2 x3 x4 x5 64 d l)
    (r d : Fin 128) : k1_pay473 (F := Ideal) L A (ix3 0 r d) = yAt x0 x1 x2 x3 x4 x5 d ⟨r.val, by omega⟩ := by
  pointwise [k1_pay473, k1_pay472, hL, hA, yAt]

/-- The second head's half of the output block. -/
theorem pay_second (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (L : FVec Ideal S8x256 .f32) (A : FVec Ideal S128x256 .f32) (hL : ∀ r l, L (ix2 r l) = lAcc x0 x1 x2 x3 64 r l) (hA : ∀ d l, A (ix2 d l) = aAcc x0 x1 x2 x3 x4 x5 64 d l)
    (r d : Fin 128) : k1_pay1 (F := Ideal) (k1_pay474 (F := Ideal) L A) (ix3 0 r d) = yAt x0 x1 x2 x3 x4 x5 d ⟨128 + r.val, by omega⟩ := by
  pointwise [k1_pay1, k1_pay474, k1_pay472, hL, hA, yAt]

/-- The second stored rectangle is that part of `yBlk`. -/
theorem piece_second (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (L : FVec Ideal S8x256 .f32) (A : FVec Ideal S128x256 .f32) (hL : ∀ r l, L (ix2 r l) = lAcc x0 x1 x2 x3 64 r l) (hA : ∀ d l, A (ix2 d l) = aAcc x0 x1 x2 x3 x4 x5 64 d l) (inb) (i : S1x128x128.Idx) :
    k1_pay1 (F := Ideal) (k1_pay474 (F := Ideal) L A) i = yBlk x0 x1 x2 x3 x4 x5 ((Rect.unit (s := S1x128x256) ![0, 0, 128] S1x128x128.size inb).emb i) := by
  idx_vars i
  have h0 : i0 = 0 := Subsingleton.elim _ _
  subst h0
  rw [emb3 inb 0 i1 i2 0 i1 ⟨128 + i2.val, by omega⟩ (by simp) (Nat.zero_add _).symm (by simp), pay_second x0 x1 x2 x3 x4 x5 L A hL hA]
  refine congrArg₂ (yAt x0 x1 x2 x3 x4 x5) (Fin.ext ?_) (Fin.ext ?_)
  · show i2.val = (128 + i2.val) % 128
    omega
  · show 128 + i1.val = (128 + i2.val) / 128 * 128 + i1.val
    omega

/-- The first stored rectangle is that part of `yBlk`. -/
theorem piece_first (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32) (L : FVec Ideal S8x256 .f32) (A : FVec Ideal S128x256 .f32) (hL : ∀ r l, L (ix2 r l) = lAcc x0 x1 x2 x3 64 r l) (hA : ∀ d l, A (ix2 d l) = aAcc x0 x1 x2 x3 x4 x5 64 d l) (inb) (i : S1x128x128.Idx) :
    k1_pay473 (F := Ideal) L A i = yBlk x0 x1 x2 x3 x4 x5 ((Rect.unit (s := S1x128x256) ![0, 0, 0] S1x128x128.size inb).emb i) := by
  idx_vars i
  have h0 : i0 = 0 := Subsingleton.elim _ _
  subst h0
  rw [emb3 inb 0 i1 i2 0 i1 ⟨i2.val, by omega⟩ (by simp) (Nat.zero_add _).symm (by simp), pay_first x0 x1 x2 x3 x4 x5 L A hL hA]
  refine congrArg₂ (yAt x0 x1 x2 x3 x4 x5) (Fin.ext ?_) (Fin.ext ?_)
  · show i2.val = (i2.val) % 128
    omega
  · show i1.val = (i2.val) / 128 * 128 + i1.val
    omega

section
variable (c : Dev nD) (arg4 : Memref sig .tc .vmem S1x128x256 .fp8e4m3) (harg4 : arg4.IsWhole) (arg5 : Memref sig .tc .vmem S1x1x1x256 .f32) (harg5 : arg5.IsWhole) (arg6 : Memref sig .tc .vmem S1x8192x128 .fp8e4m3) (harg6 : arg6.IsWhole) (arg7 : Memref sig .tc .vmem S1x64x128 .f32) (harg7 : arg7.IsWhole) (arg8 : Memref sig .tc .vmem S1x128x8192 .fp8e4m3) (harg8 : arg8.IsWhole) (arg9 : Memref sig .tc .vmem S1x64x128 .f32) (harg9 : arg9.IsWhole) (arg10 : Memref sig .tc .vmem S1x128x256 .bf16) (harg10 : arg10.IsWhole) (arg11 : Memref sig .tc .vmem S8192x256 .f32) (harg11 : arg11.IsWhole) (arg12 : Memref sig .tc .vmem S64x8x256 .f32) (harg12 : arg12.IsWhole) (arg13 : Memref sig .tc .vmem S64x256 .f32) (harg13 : arg13.IsWhole) (arg14 : Memref sig .tc .vmem S64x256 .f32) (harg14 : arg14.IsWhole) (arg15 : Memref sig .tc .vmem S64x256 .f32) (harg15 : arg15.IsWhole) (arg16 : Memref sig .tc .vmem S64x256 .f32) (harg16 : arg16.IsWhole) (arg17 : Memref sig .tc .vmem S128x256 .f32) (harg17 : arg17.IsWhole) (arg18 : Memref sig .tc .vmem S8x256 .f32) (harg18 : arg18.IsWhole) (x0 : FVec Ideal S1x128x256 .fp8e4m3) (x1 : FVec Ideal S1x1x1x256 .f32) (x2 : FVec Ideal S1x8192x128 .fp8e4m3) (x3 : FVec Ideal S1x64x128 .f32) (x4 : FVec Ideal S1x128x8192 .fp8e4m3) (x5 : FVec Ideal S1x64x128 .f32)

/-- What the attention call leaves in its output block. -/
theorem out_eq (i : grid1.Coords) : out1_A_6 (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 = yBlk x0 x1 x2 x3 x4 x5 := by
  unfold out1_A_6
  rw [View.read_writes_junk_eq_canon]
  funext j
  refine View.canon_apply_of_pieces (Val := Elt Ideal) (e := .bf16) (yBlk x0 x1 x2 x3 x4 x5) _ ?_ _ (cover1_A_6 (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 j)
  have e : (kernelRun1_A (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5).1 = [⟨Rect.unit (s := S1x128x256) ![0, 0, 128] S1x128x128.size (by decide), k1_pay1 (F := Ideal) (k1_pay474 (F := Ideal) (kernelRun1_A.sl.v3016 (F := Ideal) c arg4 harg4 arg5 harg5 arg6 harg6 arg7 harg7 arg11 arg12 arg13 arg14 arg15 arg18 x0 x1 x2 x3) (kernelRun1_A.sl.v3019 (F := Ideal) c arg4 harg4 arg5 harg5 arg6 harg6 arg7 harg7 arg8 harg8 arg9 harg9 arg11 arg12 arg13 arg14 arg16 arg17 x0 x1 x2 x3 x4 x5) )⟩, ⟨Rect.unit (s := S1x128x256) ![0, 0, 0] S1x128x128.size (by decide), k1_pay473 (F := Ideal) (kernelRun1_A.sl.v3016 (F := Ideal) c arg4 harg4 arg5 harg5 arg6 harg6 arg7 harg7 arg11 arg12 arg13 arg14 arg15 arg18 x0 x1 x2 x3) (kernelRun1_A.sl.v3019 (F := Ideal) c arg4 harg4 arg5 harg5 arg6 harg6 arg7 harg7 arg8 harg8 arg9 harg9 arg11 arg12 arg13 arg14 arg16 arg17 x0 x1 x2 x3 x4 x5) ⟩] := by
    sl_kernel_rfl
  obtain ⟨hL, hA⟩ := folded_all c arg4 harg4 arg5 harg5 arg6 harg6 arg7 harg7 arg8 harg8 arg9 harg9 arg11 arg12 arg13 arg14 arg15 arg16 arg17 arg18 x0 x1 x2 x3 x4 x5
  rw [e]
  generalize (kernelRun1_A.sl.v3016 (F := Ideal) c arg4 harg4 arg5 harg5 arg6 harg6 arg7 harg7 arg11 arg12 arg13 arg14 arg15 arg18 x0 x1 x2 x3) = L at *
  generalize (kernelRun1_A.sl.v3019 (F := Ideal) c arg4 harg4 arg5 harg5 arg6 harg6 arg7 harg7 arg8 harg8 arg9 harg9 arg11 arg12 arg13 arg14 arg16 arg17 x0 x1 x2 x3 x4 x5) = A at *
  refine List.forall_mem_cons.2 ⟨fun x => ?_, List.forall_mem_cons.2 ⟨fun x => ?_, fun p hp => absurd hp List.not_mem_nil⟩⟩
  · exact piece_second x0 x1 x2 x3 x4 x5 L A hL hA (by decide) x
  · exact piece_first x0 x1 x2 x3 x4 x5 L A hL hA (by decide) x
end
end Cert.KernelIdeal.Val
-- ==== Proof.AttnMath.lean ====
module

public import proofs.«01_k».proof.Proof.AttnOut
public import proofs.«01_k».proof.Proof.Folds

@[expose] public section

set_option maxRecDepth 16384

noncomputable section

namespace Cert.KernelIdeal.Val

open Idealize.ShloMosaic Idealize.ShloMosaic.TcCoe Idealize.SL.Sem
open Cert.KernelIdeal Cert.KernelIdeal.Gen
open Cert.Val

/-- The constant `log2e` is the reciprocal of the natural logarithm of two. -/
theorem log2e_eq : Named.named (F := Ideal) κ "log2e" (φ := .f32) 0x3FB8AA3B#32 = (((Real.log 2)⁻¹ : ℝ) : EReal) := IdealRules.named_const.ideal_named_scalar _ _ _ _ rfl

section
variable (x0 : FVec Ideal S1x128x256 .fp8e4m3) (x1 : FVec Ideal S1x1x1x256 .f32) (x2 : FVec Ideal S1x8192x128 .fp8e4m3) (x3 : FVec Ideal S1x64x128 .f32)
  (x4 : FVec Ideal S1x128x8192 .fp8e4m3) (x5 : FVec Ideal S1x64x128 .f32)

/-- The scaled score of key `b` of key block `k` in a query column. -/
def sco (k : Fin 64) (b : Fin 128) (l : Fin 256) : EReal :=
  raw x0 x2 (ix2 ⟨k.val * 128 + b.val, by omega⟩ l) * cq x1 l * x3 (ix3 0 k (lane l))

/-- The largest score of a query column, over key blocks and keys. -/
def tops (l : Fin 256) : EReal := top fun k : Fin 64 => top fun b : Fin 128 => sco x0 x1 x2 x3 k b l

/-- The largest weight of a key block over the 128 columns of a query block. -/
def topw (k : Fin 64) (l : Fin 256) : EReal :=
  top fun q : Fin 128 => top fun b : Fin 128 => Ideal.exp (sco x0 x1 x2 x3 k b (laneBase l q) - tops x0 x1 x2 x3 (laneBase l q))

/-- The reference's exponent of that weight. -/
def ewr (k : Fin 64) (l : Fin 256) : EReal := refE ((Real.log 2 : ℝ) : EReal) (topw x0 x1 x2 x3 k l)

variable (H1 : ∀ i, ∃ v : ℝ, raw x0 x2 i = (v : EReal)) (H2 : ∀ l, ∃ v : ℝ, 0 ≤ v ∧ cq x1 l = (v : EReal)) (H3 : ∀ i, ∃ v : ℝ, 0 ≤ v ∧ x3 i = (v : EReal))
include H2 H3

/-- A block's largest raw score, scaled, is the largest of its scaled scores: the scales are not negative. -/
theorem smax_eq (k : Fin 64) (l : Fin 256) : smax x0 x1 x2 x3 k l = top fun b : Fin 128 => sco x0 x1 x2 x3 k b l := by
  obtain ⟨c, hc, ec⟩ := H2 l
  obtain ⟨w, hw, ew⟩ := H3 (ix3 0 k (lane l))
  have h : Finset.fold max (Ideal.ofBits FTy.f32 4286578688#32) (fun a : Fin 8 => m8 x0 x2 (ix3 k a l)) Finset.univ
      = top fun b : Fin 128 => raw x0 x2 (ix2 ⟨k.val * 128 + b.val, by omega⟩ l) :=
    top_tiles fun b => raw x0 x2 (ix2 ⟨k.val * 128 + b.val, by omega⟩ l)
  unfold smax sco
  rw [h, ec, ew]
  exact map_top (fun v => v * (c : EReal) * (w : EReal)) (fun a b hab => mul_le_mul_of_nonneg_right
    (mul_le_mul_of_nonneg_right hab (EReal.coe_nonneg.2 hc)) (EReal.coe_nonneg.2 hw)) _

/-- The kernel's maximum of a query column is the largest scaled score. -/
theorem mx_eq (l : Fin 256) : mx x0 x1 x2 x3 l = tops x0 x1 x2 x3 l := by
  unfold mx tops
  exact congrArg (fun f : Fin 64 → EReal => Finset.fold max _ f Finset.univ) (funext fun k => smax_eq x0 x1 x2 x3 H2 H3 k l)

include H1

/-- A scaled score is a real number. -/
theorem sco_real (k : Fin 64) (b : Fin 128) (l : Fin 256) : ∃ v : ℝ, sco x0 x1 x2 x3 k b l = (v : EReal) := by
  obtain ⟨c, -, ec⟩ := H2 l
  obtain ⟨w, -, ew⟩ := H3 (ix3 0 k (lane l))
  obtain ⟨r, er⟩ := H1 (ix2 ⟨k.val * 128 + b.val, by omega⟩ l)
  exact ⟨r * c * w, by rw [sco, er, ec, ew, EReal.coe_mul, EReal.coe_mul]⟩

/-- The largest score of a query column is a real number. -/
theorem tops_real (l : Fin 256) : ∃ v : ℝ, tops x0 x1 x2 x3 l = (v : EReal) := by
  obtain ⟨k, hk⟩ := top_mem fun k : Fin 64 => top fun b : Fin 128 => sco x0 x1 x2 x3 k b l
  obtain ⟨b, hb⟩ := top_mem fun b : Fin 128 => sco x0 x1 x2 x3 k b l
  obtain ⟨v, hv⟩ := sco_real x0 x1 x2 x3 H1 H2 H3 k b l
  exact ⟨v, hk.trans (hb.trans hv)⟩

/-- The exponential of a block's largest difference is the block's largest weight. -/
theorem wmax_eq (k : Fin 64) (l : Fin 256) : wmax x0 x1 x2 x3 k l = topw x0 x1 x2 x3 k l := by
  have h : wmax x0 x1 x2 x3 k l = Ideal.exp (top fun q : Fin 128 => (top fun b : Fin 128 => sco x0 x1 x2 x3 k b (laneBase l q)) - tops x0 x1 x2 x3 (laneBase l q)) := by
    unfold wmax
    simp only [smax_eq x0 x1 x2 x3 H2 H3, mx_eq x0 x1 x2 x3 H2 H3]
    rfl
  rw [h, map_top _ exp_mono]
  unfold topw
  refine congrArg top (funext fun q => ?_)
  obtain ⟨M, hM⟩ := tops_real x0 x1 x2 x3 H1 H2 H3 (laneBase l q)
  rw [hM]
  exact map_top (fun v => Ideal.exp (v - (M : EReal))) (fun a b hab => exp_mono (EReal.sub_le_sub hab le_rfl)) _

/-- A score and the largest score of its query column are real numbers, the first at most the second. -/
theorem weight_real (k : Fin 64) (b : Fin 128) (l : Fin 256) : ∃ s M : ℝ, s ≤ M ∧ sco x0 x1 x2 x3 k b l = (s : EReal) ∧ tops x0 x1 x2 x3 l = (M : EReal) := by
  obtain ⟨s, hs⟩ := sco_real x0 x1 x2 x3 H1 H2 H3 k b l
  obtain ⟨M, hM⟩ := tops_real x0 x1 x2 x3 H1 H2 H3 l
  refine ⟨s, M, ?_, hs, hM⟩
  have h : sco x0 x1 x2 x3 k b l ≤ tops x0 x1 x2 x3 l :=
    (entry_le (fun b : Fin 128 => sco x0 x1 x2 x3 k b l) b).trans (entry_le (fun k : Fin 64 => top fun b : Fin 128 => sco x0 x1 x2 x3 k b l) k)
  rw [hs, hM] at h
  exact EReal.coe_le_coe_iff.1 h

/-- The largest weight of a block is a real number below two to the 128. -/
theorem topw_real (k : Fin 64) (l : Fin 256) : ∃ a : ℝ, a < (2 : ℝ) ^ (128 : ℤ) ∧ topw x0 x1 x2 x3 k l = (a : EReal) := by
  obtain ⟨q, hq⟩ := top_mem fun q : Fin 128 => top fun b : Fin 128 => Ideal.exp (sco x0 x1 x2 x3 k b (laneBase l q) - tops x0 x1 x2 x3 (laneBase l q))
  obtain ⟨b, hb⟩ := top_mem fun b : Fin 128 => Ideal.exp (sco x0 x1 x2 x3 k b (laneBase l q) - tops x0 x1 x2 x3 (laneBase l q))
  obtain ⟨s, M, hsM, hs, hM⟩ := weight_real x0 x1 x2 x3 H1 H2 H3 k b (laneBase l q)
  refine ⟨Real.exp (s - M), ?_, (hq.trans hb).trans ?_⟩
  · refine lt_of_le_of_lt (Real.exp_le_one_iff.2 (by linarith)) (by norm_num)
  · rw [hs, hM, ← EReal.coe_sub, Ideal.exp_coe]

/-- The kernel's exponent of a block of weights is the reference's. -/
theorem ew_eq (k : Fin 64) (l : Fin 256) : ∃ e : ℤ, -126 ≤ e ∧ e ≤ 126 ∧ eW x0 x1 x2 x3 k l = BitVec.ofInt 32 e ∧ ewr x0 x1 x2 x3 k l = ((e : ℝ) : EReal) := by
  obtain ⟨a, ha, h⟩ := topw_real x0 x1 x2 x3 H1 H2 H3 k l
  obtain ⟨h1, h2⟩ := expo_range a ha
  refine ⟨expo a, h1, h2, ?_, ?_⟩
  · rw [eW, wmax_eq x0 x1 x2 x3 H1 H2 H3, h, kexp_eq a ha]
  · rw [ewr, h, refE_eq]

/-- The kernel's scale of a block of weights is the reference's. -/
theorem ps_eq (k : Fin 64) (l : Fin 256) : PS x0 x1 x2 x3 (ix2 k l) = Ideal.exp2 (ewr x0 x1 x2 x3 k l) := by
  obtain ⟨e, h1, h2, h3, h4⟩ := ew_eq x0 x1 x2 x3 H1 H2 H3 k l
  rw [h4, exp2_eq]
  show Ideal.ofBits .f32 (IntOp.shli .vector (IntOp.addi (eW x0 x1 x2 x3 k l) 127#32) 23#32) = _
  rw [h3, pow2_eq e h1 h2]

/-- The rescaled weight inside the power of two is the weight times the reciprocal scale. -/
theorem pw_eq (k : Fin 64) (b : Fin 128) (l : Fin 256) : pw x0 x1 x2 x3 k b l
    = Ideal.exp (sco x0 x1 x2 x3 k b l - tops x0 x1 x2 x3 l) * Ideal.exp2 (0 - ewr x0 x1 x2 x3 k l) := by
  obtain ⟨e, h1, h2, h3, h4⟩ := ew_eq x0 x1 x2 x3 H1 H2 H3 k l
  obtain ⟨M, hM⟩ := tops_real x0 x1 x2 x3 H1 H2 H3 l
  obtain ⟨c, -, ec⟩ := H2 l
  obtain ⟨w, -, ew⟩ := H3 (ix3 0 k (lane l))
  obtain ⟨r, er⟩ := H1 (ix2 ⟨k.val * 128 + b.val, by omega⟩ l)
  have hB : BQ x0 x1 x2 x3 (ix2 k l) = ((M * (Real.log 2)⁻¹ + (e : ℝ) : ℝ) : EReal) := by
    show mx x0 x1 x2 x3 l * Named.named (F := Ideal) κ "log2e" (φ := .f32) 0x3FB8AA3B#32 + (((eW x0 x1 x2 x3 k l).toInt : ℝ) : EReal) = _
    rw [mx_eq x0 x1 x2 x3 H2 H3, hM, log2e_eq, h3, toInt_eq e h1 h2, EReal.coe_add, EReal.coe_mul]
  have hC : C1 x1 x3 (ix2 k l) = ((c * (Real.log 2)⁻¹ * w : ℝ) : EReal) := by
    show cq x1 l * Named.named (F := Ideal) κ "log2e" (φ := .f32) 0x3FB8AA3B#32 * x3 (ix3 0 k (lane l)) = _
    rw [ec, ew, log2e_eq, EReal.coe_mul, EReal.coe_mul]
  have hS : sco x0 x1 x2 x3 k b l = ((r * c * w : ℝ) : EReal) := by rw [sco, er, ec, ew, EReal.coe_mul, EReal.coe_mul]
  unfold pw
  rw [hB, hC, hS, hM, h4, er, ← EReal.coe_mul, ← EReal.coe_sub, ← EReal.coe_sub, ← EReal.coe_zero, ← EReal.coe_sub, Ideal.exp_coe, Ideal.exp2_coe, Ideal.exp2_coe, ← EReal.coe_mul]
  congr 1
  have hl : Real.log 2 ≠ 0 := (Real.log_pos (by norm_num)).ne'
  show (2 : ℝ) ^ (_ : ℝ) = Real.exp _ * (2 : ℝ) ^ (_ : ℝ)
  rw [Real.rpow_def_of_pos (by norm_num), Real.rpow_def_of_pos (by norm_num), ← Real.exp_add]
  congr 1
  field_simp
  ring

/-- What a key block adds to the sums of weights, all eight rows together. -/
theorem lsum_eq (l : Fin 256) : (∑ r : Fin 8, lAcc x0 x1 x2 x3 64 r l)
    = ∑ k : Fin 64, ∑ b : Fin 128, Ideal.exp (sco x0 x1 x2 x3 k b l - tops x0 x1 x2 x3 l) := by
  have hl : ∀ r : Fin 8, lAcc x0 x1 x2 x3 64 r l = ∑ k : Fin 64, lStep x0 x1 x2 x3 k r l := by
    intro r
    rw [lAcc, Finset.sum_range]
    exact Finset.sum_congr rfl fun k _ => by rw [Fin.ofNat_eq_cast, Fin.cast_val_eq_self]
  simp only [hl]
  rw [Finset.sum_comm]
  refine Finset.sum_congr rfl fun k _ => ?_
  choose s M _ hs hM using fun b => weight_real x0 x1 x2 x3 H1 H2 H3 k b l
  obtain ⟨e, -, -, -, h4⟩ := ew_eq x0 x1 x2 x3 H1 H2 H3 k l
  have hp : ∀ b, pw x0 x1 x2 x3 k b l = ((Real.exp (s b - M b) * (2 : ℝ) ^ (-e) : ℝ) : EReal) := by
    intro b
    have h2 : Ideal.exp2 (0 - ((e : ℝ) : EReal)) = (((2 : ℝ) ^ (-e) : ℝ) : EReal) := by
      rw [← exp2_eq (-e), ← EReal.coe_zero, ← EReal.coe_sub]; simp
    rw [pw_eq x0 x1 x2 x3 H1 H2 H3, h4, hs, hM b, h2, ← EReal.coe_sub, Ideal.exp_coe, EReal.coe_mul]
  have hw : ∀ b, Ideal.exp (sco x0 x1 x2 x3 k b l - tops x0 x1 x2 x3 l) = ((Real.exp (s b - M b) : ℝ) : EReal) := by
    intro b
    rw [hs, hM b, ← EReal.coe_sub, Ideal.exp_coe]
  simp only [lStep, ps_eq x0 x1 x2 x3 H1 H2 H3, h4, exp2_eq, hp, hw]
  simp only [← coe_sum, ← EReal.coe_mul]
  congr 1
  have h2 : (2 : ℝ) ^ (-e) * (2 : ℝ) ^ e = 1 := by rw [← zpow_add₀ (by norm_num)]; simp
  simp only [Finset.sum_mul, mul_assoc, h2, mul_one]
  rw [Finset.sum_comm]
  exact (Fin.sum_univ_tiles 16 8 rfl fun b : Fin 128 => Real.exp (s b - M b)).symm

/-- The accumulator after all key blocks: the reference's sum over the blocks of the codes' products times their scales. -/
theorem acc_eq (d : Fin 128) (l : Fin 256) : aAcc x0 x1 x2 x3 x4 x5 64 d l
    = ∑ k : Fin 64, (∑ b : Fin 128, min (Ideal.ofBits .f32 1138753536#32) (max (Ideal.ofBits .f32 3286237184#32)
        (Ideal.exp (sco x0 x1 x2 x3 k b l - tops x0 x1 x2 x3 l) * Ideal.exp2 (0 - ewr x0 x1 x2 x3 k l))) * x4 (ix3 0 d ⟨k.val * 128 + b.val, by omega⟩))
      * Ideal.exp2 (ewr x0 x1 x2 x3 k l) * x5 (ix3 0 k (lane l)) := by
  rw [aAcc, Finset.sum_range]
  refine Finset.sum_congr rfl fun k _ => ?_
  rw [Fin.ofNat_eq_cast, Fin.cast_val_eq_self, aStep, mul_assoc]
  have hS : SC x0 x1 x2 x3 x5 (ix2 k l) = Ideal.exp2 (ewr x0 x1 x2 x3 k l) * x5 (ix3 0 k (lane l)) := by
    rw [← ps_eq x0 x1 x2 x3 H1 H2 H3]
    rfl
  rw [hS]
  congr 1
  refine Finset.sum_congr rfl fun b _ => ?_
  rw [pw_eq x0 x1 x2 x3 H1 H2 H3, mul_comm]

end

end Cert.KernelIdeal.Val

end
-- ==== Proof.AttnArray.lean ====
module

public import proofs.«01_k».proof.Proof.AttnOut

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen
open Cert.Val

/-- The grid point's number of its pair of heads. -/
def tileOf (t : Fin cfg1.N) : Fin 8 := ⟨(grid1.coords t 1).val * 4 + (grid1.coords t 3).val, by
  have h1 := (grid1.coords t 1).isLt; change _ < 2 at h1; have h2 := (grid1.coords t 3).isLt; change _ < 4 at h2; omega⟩

/-- Where each window of the attention call sits at each grid point. -/
theorem idx1 : ∀ t : Fin cfg1.N, win1_0.index t = ![(grid1.coords t 0).val, (grid1.coords t 2).val, (grid1.coords t 1).val * 4 + (grid1.coords t 3).val]
    ∧ win1_1.index t = ![(grid1.coords t 0).val, (grid1.coords t 2).val, 0, (grid1.coords t 1).val * 4 + (grid1.coords t 3).val]
    ∧ win1_2.index t = ![(grid1.coords t 0).val, 0, (grid1.coords t 1).val] ∧ win1_3.index t = ![(grid1.coords t 0).val, 0, (grid1.coords t 1).val]
    ∧ win1_4.index t = ![(grid1.coords t 0).val, (grid1.coords t 1).val, 0] ∧ win1_5.index t = ![(grid1.coords t 0).val, 0, (grid1.coords t 1).val]
    ∧ win1_6.index t = ![(grid1.coords t 0).val, (grid1.coords t 2).val, (grid1.coords t 1).val * 4 + (grid1.coords t 3).val] :=
  (by decide +kernel : ∀ t : Fin grid1.N, _)

/-- The block of 128 query rows and two heads of the queries' codes. -/
def b0 (A : FVec Ideal S8x8192x2048 .fp8e4m3) (n : Fin 8) (i : Fin 64) (T : Fin 8) : FVec Ideal S1x128x256 .fp8e4m3 := fun j =>
  A (ix3 n ⟨i.val * 128 + (j 1).val, by have := (j 1).isLt; change _ < 128 at this; omega⟩ ⟨T.val * 256 + (j 2).val, by have := (j 2).isLt; change _ < 256 at this; omega⟩)
/-- The scales of that block. -/
def b1 (A : FVec Ideal S8x64x1x2048 .f32) (n : Fin 8) (i : Fin 64) (T : Fin 8) : FVec Ideal S1x1x1x256 .f32 := fun j =>
  A (ix4 n i 0 ⟨T.val * 256 + (j 3).val, by have := (j 3).isLt; change _ < 256 at this; omega⟩)
/-- One key head's codes. -/
def b2 (A : FVec Ideal S8x8192x256 .fp8e4m3) (n : Fin 8) (T : Fin 8) : FVec Ideal S1x8192x128 .fp8e4m3 := fun j =>
  A (ix3 n (j 1) ⟨T.val / 4 * 128 + (j 2).val, by have := (j 2).isLt; change _ < 128 at this; omega⟩)
/-- One key head's scales. -/
def b3 (A : FVec Ideal S8x64x256 .f32) (n : Fin 8) (T : Fin 8) : FVec Ideal S1x64x128 .f32 := fun j =>
  A (ix3 n (j 1) ⟨T.val / 4 * 128 + (j 2).val, by have := (j 2).isLt; change _ < 128 at this; omega⟩)
/-- One value head's codes, transposed. -/
def b4 (A : FVec Ideal S8x256x8192 .fp8e4m3) (n : Fin 8) (T : Fin 8) : FVec Ideal S1x128x8192 .fp8e4m3 := fun j =>
  A (ix3 n ⟨T.val / 4 * 128 + (j 1).val, by have := (j 1).isLt; change _ < 128 at this; omega⟩ (j 2))

/-- The attention call's result from its operands. -/
def Yk (A0 : FVec Ideal S8x8192x2048 .fp8e4m3) (A1 : FVec Ideal S8x64x1x2048 .f32) (A2 : FVec Ideal S8x8192x256 .fp8e4m3) (A3 : FVec Ideal S8x64x256 .f32)
    (A4 : FVec Ideal S8x256x8192 .fp8e4m3) (A5 : FVec Ideal S8x64x256 .f32) (n : Fin 8) (i : Fin 64) (T : Fin 8) : FVec Ideal S1x128x256 .bf16 :=
  yBlk (b0 A0 n i T) (b1 A1 n i T) (b2 A2 n T) (b3 A3 n T) (b4 A4 n T) (b3 A5 n T)

/-- The same as one array. -/
def YK (A0 : FVec Ideal S8x8192x2048 .fp8e4m3) (A1 : FVec Ideal S8x64x1x2048 .f32) (A2 : FVec Ideal S8x8192x256 .fp8e4m3) (A3 : FVec Ideal S8x64x256 .f32)
    (A4 : FVec Ideal S8x256x8192 .fp8e4m3) (A5 : FVec Ideal S8x64x256 .f32) : FVec Ideal S8x8192x2048 .bf16 := fun j =>
  Yk A0 A1 A2 A3 A4 A5 (j 0) ⟨(j 1).val / 128, by have := (j 1).isLt; change _ < 8192 at this; omega⟩ ⟨(j 2).val / 256, by have := (j 2).isLt; change _ < 2048 at this; omega⟩
    (ix3 0 ⟨(j 1).val % 128, by omega⟩ ⟨(j 2).val % 256, by omega⟩)

/-- An entry of the attention's result depends only on the values of its coordinates. -/
theorem Yk_congr (A0 : FVec Ideal S8x8192x2048 .fp8e4m3) (A1 : FVec Ideal S8x64x1x2048 .f32) (A2 : FVec Ideal S8x8192x256 .fp8e4m3) (A3 : FVec Ideal S8x64x256 .f32)
    (A4 : FVec Ideal S8x256x8192 .fp8e4m3) (A5 : FVec Ideal S8x64x256 .f32) {n n' : Fin 8} {i i' : Fin 64} {T T' : Fin 8} {a a' : Fin 128} {b b' : Fin 256}
    (hn : n.val = n'.val) (hi : i.val = i'.val) (hT : T.val = T'.val) (ha : a.val = a'.val) (hb : b.val = b'.val) :
    Yk A0 A1 A2 A3 A4 A5 n i T (ix3 0 a b) = Yk A0 A1 A2 A3 A4 A5 n' i' T' (ix3 0 a' b') := by
  obtain rfl := Fin.ext hn; obtain rfl := Fin.ext hi; obtain rfl := Fin.ext hT; obtain rfl := Fin.ext ha; obtain rfl := Fin.ext hb; rfl

section
variable (V : (c : Dev nD) → (b : Ref sig .tc) → Buf (Elt Ideal) ((c : Thread nD τ).loc b))

/-- A grid point's block of the queries' codes. -/
theorem iblk1_0 (c : Dev nD) (t : Fin cfg1.N) : iblk1 V c 0 t = b0 (V c main_v0_0) (grid1.coords t 0) (grid1.coords t 2) (tileOf t) := by
  have h1 := (grid1.coords t 1).isLt; change _ < 2 at h1; have h2 := (grid1.coords t 3).isLt; change _ < 4 at h2
  blk_ext! [iblk1, b0, tileOf, idx1 t]

/-- A grid point's block of the queries' scales. -/
theorem iblk1_1 (c : Dev nD) (t : Fin cfg1.N) : iblk1 V c 1 t = b1 (V c main_v1) (grid1.coords t 0) (grid1.coords t 2) (tileOf t) := by
  have h1 := (grid1.coords t 1).isLt; change _ < 2 at h1; have h2 := (grid1.coords t 3).isLt; change _ < 4 at h2
  blk_ext! [iblk1, b1, tileOf, idx1 t]

/-- A grid point's block of the keys' codes. -/
theorem iblk1_2 (c : Dev nD) (t : Fin cfg1.N) : iblk1 V c 2 t = b2 (V c main_v0_2) (grid1.coords t 0) (tileOf t) := by
  have h1 := (grid1.coords t 1).isLt; change _ < 2 at h1; have h2 := (grid1.coords t 3).isLt; change _ < 4 at h2
  blk_ext! [iblk1, b2, tileOf, idx1 t]

/-- A grid point's block of the keys' scales. -/
theorem iblk1_3 (c : Dev nD) (t : Fin cfg1.N) : iblk1 V c 3 t = b3 (V c main_v0_3) (grid1.coords t 0) (tileOf t) := by
  have h1 := (grid1.coords t 1).isLt; change _ < 2 at h1; have h2 := (grid1.coords t 3).isLt; change _ < 4 at h2
  blk_ext! [iblk1, b3, tileOf, idx1 t]

/-- A grid point's block of the values' codes. -/
theorem iblk1_4 (c : Dev nD) (t : Fin cfg1.N) : iblk1 V c 4 t = b4 (V c main_v0_6) (grid1.coords t 0) (tileOf t) := by
  have h1 := (grid1.coords t 1).isLt; change _ < 2 at h1; have h2 := (grid1.coords t 3).isLt; change _ < 4 at h2
  blk_ext! [iblk1, b4, tileOf, idx1 t]

/-- A grid point's block of the values' scales. -/
theorem iblk1_5 (c : Dev nD) (t : Fin cfg1.N) : iblk1 V c 5 t = b3 (V c main_v0_5) (grid1.coords t 0) (tileOf t) := by
  have h1 := (grid1.coords t 1).isLt; change _ < 2 at h1; have h2 := (grid1.coords t 3).isLt; change _ < 4 at h2
  blk_ext! [iblk1, b3, tileOf, idx1 t]

/-- After the whole grid the output array of the attention call is `YK` of its operands. -/
theorem final1_6 (c : Dev nD) : (dat1 V c).arrAt 6 cfg1.N
    = YK (V c main_v0_0) (V c main_v1) (V c main_v0_2) (V c main_v0_3) (V c main_v0_6) (V c main_v0_5) := by
  refine (dat1 V c).arrAt_eq_of_covers 6 _ (by decide +kernel) fun t _ y => ?_
  blk_simp
  rw [after1_6]
  unfold outsAt1
  rw [out_eq, iblk1_0, iblk1_1, iblk1_2, iblk1_3, iblk1_4, iblk1_5]
  idx_vars y
  obtain rfl : y0 = 0 := Subsingleton.elim _ _
  unfold YK
  have h1 := (grid1.coords t 1).isLt; change _ < 2 at h1; have h2 := (grid1.coords t 3).isLt; change _ < 4 at h2
  refine Yk_congr _ _ _ _ _ _ ?_ ?_ ?_ ?_ ?_
  all_goals blk_simp [idx1 t, tileOf]
  all_goals dsimp only
  all_goals omega

end
end Cert.KernelIdeal.Val

end
-- ==== Proof.RefAttn.lean ====
module

public import proofs.«01_k».proof.Proof.Gen.ReferenceIdeal.Frame
public import Idealize.ShloMosaic.Lib.Pointwise
public import Idealize.ShloMosaic.Lib.Pipeline.ValueKit
public import proofs.«01_k».proof.Proof.RefQuant

@[expose] public section

set_option maxRecDepth 16384

noncomputable section

namespace Cert.ReferenceIdeal.Val

open Idealize.ShloMosaic Idealize.ShloMosaic.TcCoe Idealize.SL.Sem
open Cert.ReferenceIdeal Cert.ReferenceIdeal.Gen
open Cert.Val

/-- The raw scores: query codes times key codes, summed over the head's dimension. -/
def rraw (v31 : FVec Ideal S8x8192x16x128 .fp8e4m3) (v64 : FVec Ideal S8x8192x2x128 .fp8e4m3) : FVec Ideal S128x64x128x64x128 .f32 :=
  shapeCast S128x64x128x64x128 (matmul dot_S128x8192x128_S128x8192x128_S128x8192x8192_2_2_1_1_0_0 none
    (shapeCast S128x8192x128 (transpose S8x16x8192x128 [0, 2, 1, 3] v31 transposes_S8x8192x16x128_p0_2_1_3_S8x16x8192x128) shapeCasts_S8x16x8192x128_S128x8192x128)
    (shapeCast S128x8192x128 (broadcastTo S8x2x8x8192x128 (shapeCast S8x2x1x8192x128 (shapeCast S8x2x1x8192x128 (transpose S8x2x8192x128 [0, 2, 1, 3] v64 transposes_S8x8192x2x128_p0_2_1_3_S8x2x8192x128) shapeCasts_S8x2x8192x128_S8x2x1x8192x128) shapeCasts_S8x2x1x8192x128_S8x2x1x8192x128) broadcasts_S8x2x1x8192x128_S8x2x8x8192x128) shapeCasts_S8x2x8x8192x128_S128x8192x128)
    (constant S128x8192x8192 .f32 0x00000000#32)) shapeCasts_S128x8192x8192_S128x64x128x64x128

/-- A raw score: the product of one query with one key. -/
theorem rraw_at (v31 : FVec Ideal S8x8192x16x128 .fp8e4m3) (v64 : FVec Ideal S8x8192x2x128 .fp8e4m3) (H : Fin 128) (g : Fin 64) (r : Fin 128) (k : Fin 64) (b : Fin 128) :
    rraw v31 v64 (ix5 H g r k b) = ∑ d : Fin 128, v31 (ix4 ⟨H.val / 16, by omega⟩ ⟨g.val * 128 + r.val, by omega⟩ ⟨H.val % 16, by omega⟩ d) * v64 (ix4 ⟨H.val / 16, by omega⟩ ⟨k.val * 128 + b.val, by omega⟩ ⟨H.val / 8 % 2, by omega⟩ d) := by
  unfold rraw
  pointwise

/-- The scaled scores. -/
def rsc (R : FVec Ideal S128x64x128x64x128 .f32) (v32 : FVec Ideal S8x64x16 .f32) (v65 : FVec Ideal S8x64x2 .f32) : FVec Ideal S128x64x128x64x128 .f32 :=
  mulf (mulf R (broadcastTo S128x64x128x64x128 (mulf (shapeCast S128x64x1x1x1 (transpose S8x16x64 [0, 2, 1] v32 transposes_S8x64x16_p0_2_1_S8x16x64) shapeCasts_S8x16x64_S128x64x1x1x1) (broadcast S128x64x1x1x1 (Scalar.ofBits .f32 0x3DB504F3#32))) broadcasts_S128x64x1x1x1_S128x64x128x64x128))
    (broadcastTo S128x64x128x64x128 (shapeCast S128x1x1x64x1 (broadcastTo S8x2x8x64 (shapeCast S8x2x1x64 (shapeCast S8x2x1x64 (transpose S8x2x64 [0, 2, 1] v65 transposes_S8x64x2_p0_2_1_S8x2x64) shapeCasts_S8x2x64_S8x2x1x64) shapeCasts_S8x2x1x64_S8x2x1x64) broadcasts_S8x2x1x64_S8x2x8x64) shapeCasts_S8x2x8x64_S128x1x1x64x1) broadcasts_S128x1x1x64x1_S128x64x128x64x128)

/-- A scaled score. -/
theorem rsc_at (R : FVec Ideal S128x64x128x64x128 .f32) (v32 : FVec Ideal S8x64x16 .f32) (v65 : FVec Ideal S8x64x2 .f32) (H : Fin 128) (g : Fin 64) (r : Fin 128) (k : Fin 64) (b : Fin 128) :
    rsc R v32 v65 (ix5 H g r k b) = R (ix5 H g r k b) * (v32 (ix3 ⟨H.val / 16, by omega⟩ g ⟨H.val % 16, by omega⟩) * Ideal.ofBits .f32 1035273459#32) * v65 (ix3 ⟨H.val / 16, by omega⟩ k ⟨H.val / 8 % 2, by omega⟩) := by
  unfold rsc
  pointwise

/-- A row's largest score, spread over the row. -/
def rtop (s : FVec Ideal S128x64x128x64x128 .f32) : FVec Ideal S128x64x128x64x128 .f32 :=
  broadcastTo S128x64x128x64x128 (shapeCast S128x64x128x1x1 (multiReduction .maximumf [3] S128x64x128x1 (shapeCast S128x64x128x64x1 (multiReduction .maximumf [4] S128x64x128x64 s 0xFF800000#32 reduces_S128x64x128x64x128_S128x64x128x64 (.inl rfl) rfl) shapeCasts_S128x64x128x64_S128x64x128x64x1) 0xFF800000#32 reduces_S128x64x128x64x1_S128x64x128x1 (.inl rfl) rfl) shapeCasts_S128x64x128x1_S128x64x128x1x1) broadcasts_S128x64x128x1x1_S128x64x128x64x128

/-- A row's largest score, as a maximum over key blocks and keys. -/
theorem rtop_at (s : FVec Ideal S128x64x128x64x128 .f32) (H : Fin 128) (g : Fin 64) (r : Fin 128) (k : Fin 64) (b : Fin 128) :
    rtop s (ix5 H g r k b) = Finset.fold max (Ideal.ofBits FTy.f32 4286578688#32) (fun k : Fin 64 => Finset.fold max (Ideal.ofBits FTy.f32 4286578688#32)
    (fun b : Fin 128 => s (ix5 H g r k b)) Finset.univ) Finset.univ := by
  unfold rtop
  pointwise

/-- The weights are the exponentials of the scaled scores less the row maxima. -/
theorem pay19_eq (v31 : FVec Ideal S8x8192x16x128 .fp8e4m3) (v32 : FVec Ideal S8x64x16 .f32) (v64 : FVec Ideal S8x8192x2x128 .fp8e4m3) (v65 : FVec Ideal S8x64x2 .f32) :
    k0_pay19 (F := Ideal) v31 v32 v64 v65 = exp (subf (rsc (rraw v31 v64) v32 v65) (rtop (rsc (rraw v31 v64) v32 v65))) := rfl

/-- The weights: the exponential of each score less the largest of its row. -/
theorem pay19_at (v31 : FVec Ideal S8x8192x16x128 .fp8e4m3) (v32 : FVec Ideal S8x64x16 .f32) (v64 : FVec Ideal S8x8192x2x128 .fp8e4m3) (v65 : FVec Ideal S8x64x2 .f32) (H : Fin 128) (g : Fin 64) (r : Fin 128) (k : Fin 64) (b : Fin 128) :
    k0_pay19 (F := Ideal) v31 v32 v64 v65 (ix5 H g r k b) = Ideal.exp (rsc (rraw v31 v64) v32 v65 (ix5 H g r k b) - rtop (rsc (rraw v31 v64) v32 v65) (ix5 H g r k b)) := by
  rw [pay19_eq]
  generalize rsc (rraw v31 v64) v32 v65 = s
  generalize rtop s = t
  pointwise
  try rfl

/-- The sum of a row's weights. -/
theorem pay20_at (v31 : FVec Ideal S8x8192x16x128 .fp8e4m3) (v32 : FVec Ideal S8x64x16 .f32) (v64 : FVec Ideal S8x8192x2x128 .fp8e4m3) (v65 : FVec Ideal S8x64x2 .f32) (H : Fin 128) (g : Fin 64) (r : Fin 128) :
    k0_pay20 (F := Ideal) v31 v32 v64 v65 (ix3 H g r) = ∑ k : Fin 64, ∑ b : Fin 128, k0_pay19 (F := Ideal) v31 v32 v64 v65 (ix5 H g r k b) := by
  unfold k0_pay20
  generalize k0_pay19 (F := Ideal) v31 v32 v64 v65 = p
  pointwise

/-- The values' scales, per query head. -/
theorem pay18_at (v81 : FVec Ideal S8x64x1x2x1 .f32) (v83 : IVec S8x64x1x2x1 1) (c : EReal) (H : Fin 128) (k : Fin 64) :
    k0_pay18 (F := Ideal) v81 v83 c (ix5 H 0 0 k 0) = k0_pay17 (F := Ideal) v81 v83 c (ix3 ⟨H.val / 16, by omega⟩ k ⟨H.val / 8 % 2, by omega⟩) := by
  unfold k0_pay18
  generalize k0_pay17 (F := Ideal) v81 v83 c = p
  pointwise

/-- The weights' largest magnitude over a block of 128 queries and 128 keys. -/
def pamax (p : FVec Ideal S128x64x128x64x128 .f32) : FVec Ideal S128x64x1x64x1 .f32 :=
  shapeCast S128x64x1x64x1 (multiReduction .maximumf [2] S128x64x64x1 (shapeCast S128x64x128x64x1 (multiReduction .maximumf [4] S128x64x128x64 (absf p) 0xFF800000#32 reduces_S128x64x128x64x128_S128x64x128x64 (.inl rfl) rfl) shapeCasts_S128x64x128x64_S128x64x128x64x1) 0xFF800000#32 reduces_S128x64x128x64x1_S128x64x64x1 (.inl rfl) rfl) shapeCasts_S128x64x64x1_S128x64x1x64x1

/-- A magnitude, entry by entry. -/
theorem abs_at {s : Shape} (p : FVec Ideal s .f32) (i : s.Idx) : absf p i = max (p i) (-(p i)) := rfl

/-- The largest weight of a block, as a maximum over its rows and keys. -/
theorem pamax_at (p : FVec Ideal S128x64x128x64x128 .f32) (H : Fin 128) (g : Fin 64) (k : Fin 64) :
    pamax p (ix5 H g 0 k 0) = Finset.fold max (Ideal.ofBits FTy.f32 4286578688#32) (fun r : Fin 128 => Finset.fold max (Ideal.ofBits FTy.f32 4286578688#32)
    (fun b : Fin 128 => max (p (ix5 H g r k b)) (-(p (ix5 H g r k b)))) Finset.univ) Finset.univ := by
  have hA := fun r b => abs_at p (ix5 H g r k b)
  unfold pamax
  generalize absf p = D at *
  pointwise [hA]

/-- The weights' codes, given the exponents. -/
def pcod (p : FVec Ideal S128x64x128x64x128 .f32) (e : FVec Ideal S128x64x1x64x1 .f32) : FVec Ideal S128x64x128x64x128 .f32 :=
  cv p (broadcastTo S128x64x128x64x128 (exp2 (subf (broadcast S128x64x1x64x1 (Scalar.ofBits .f32 0x00000000#32)) e)) broadcasts_S128x64x1x64x1_S128x64x128x64x128)

/-- A weight's code. -/
theorem pcod_at (p : FVec Ideal S128x64x128x64x128 .f32) (e : FVec Ideal S128x64x1x64x1 .f32) (H : Fin 128) (g : Fin 64) (r : Fin 128) (k : Fin 64) (b : Fin 128) :
    pcod p e (ix5 H g r k b) = rcode (p (ix5 H g r k b)) (e (ix5 H g 0 k 0)) := by
  unfold pcod rcode
  rw [cv_at]
  pointwise
  try rfl

/-- The products of weight codes and value codes, summed over each block of 128 keys. -/
def oacc (pc : FVec Ideal S128x64x128x64x128 .fp8e4m3) (v97 : FVec Ideal S8x8192x2x128 .fp8e4m3) : FVec Ideal S128x64x128x64x128 .f32 :=
  transpose S128x64x128x64x128 [0, 2, 3, 1, 4] (shapeCast S128x64x64x128x128 (matmul dot_S8192x8192x128_S8192x128x128_S8192x8192x128_2_1_1_2_0_0 none
    (shapeCast S8192x8192x128 (transpose S128x64x64x128x128 [0, 3, 1, 2, 4] pc transposes_S128x64x128x64x128_p0_3_1_2_4_S128x64x64x128x128) shapeCasts_S128x64x64x128x128_S8192x8192x128)
    (shapeCast S8192x128x128 (shapeCast S128x8192x128 (broadcastTo S8x2x8x8192x128 (shapeCast S8x2x1x8192x128 (shapeCast S8x2x1x8192x128 (transpose S8x2x8192x128 [0, 2, 1, 3] v97 transposes_S8x8192x2x128_p0_2_1_3_S8x2x8192x128) shapeCasts_S8x2x8192x128_S8x2x1x8192x128) shapeCasts_S8x2x1x8192x128_S8x2x1x8192x128) broadcasts_S8x2x1x8192x128_S8x2x8x8192x128) shapeCasts_S8x2x8x8192x128_S128x8192x128) shapeCasts_S128x8192x128_S8192x128x128)
    (constant S8192x8192x128 .f32 0x00000000#32)) shapeCasts_S8192x8192x128_S128x64x64x128x128) transposes_S128x64x64x128x128_p0_2_3_1_4_S128x64x128x64x128

/-- One key block's product of weight codes and value codes. -/
theorem oacc_at (pc : FVec Ideal S128x64x128x64x128 .fp8e4m3) (v97 : FVec Ideal S8x8192x2x128 .fp8e4m3) (H : Fin 128) (g : Fin 64) (r : Fin 128) (k : Fin 64) (d : Fin 128) :
    oacc pc v97 (ix5 H g r k d) = ∑ b : Fin 128, pc (ix5 H g r k b) * v97 (ix4 ⟨H.val / 16, by omega⟩ ⟨k.val * 128 + b.val, by omega⟩ ⟨H.val / 8 % 2, by omega⟩ d) := by
  unfold oacc
  pointwise
  simp only [show (H.val * 64 + k.val) / 1024 = H.val / 16 by omega, show (H.val * 64 + k.val) % 64 = k.val by omega,
    show (H.val * 64 + k.val) / 512 % 2 = H.val / 8 % 2 by omega]

/-- The result from the block sums, the exponents, the values' scales and the row sums. -/
def yof (o : FVec Ideal S128x64x128x64x128 .f32) (e : FVec Ideal S128x64x1x64x1 .f32) (v119 : FVec Ideal S128x1x1x64x1 .f32) (v134 : FVec Ideal S128x64x128 .f32) : FVec Ideal S8x16x8192x128 .f32 :=
  shapeCast S8x16x8192x128 (divf (multiReduction .add [3] S128x64x128x128
    (mulf (mulf o (broadcastTo S128x64x128x64x128 (exp2 e) broadcasts_S128x64x1x64x1_S128x64x128x64x128)) (broadcastTo S128x64x128x64x128 v119 broadcasts_S128x1x1x64x1_S128x64x128x64x128))
    0x00000000#32 reduces_S128x64x128x64x128_S128x64x128x128 (.inl rfl) rfl)
    (broadcastTo S128x64x128x128 (shapeCast S128x64x128x1 v134 shapeCasts_S128x64x128_S128x64x128x1) broadcasts_S128x64x128x1_S128x64x128x128)) shapeCasts_S128x64x128x128_S8x16x8192x128

/-- The result of one row, head and dimension: the rescaled products, summed over the key blocks, divided by the sum of the weights. -/
theorem yof_at (o : FVec Ideal S128x64x128x64x128 .f32) (e : FVec Ideal S128x64x1x64x1 .f32) (v119 : FVec Ideal S128x1x1x64x1 .f32) (v134 : FVec Ideal S128x64x128 .f32) (n : Fin 8) (h : Fin 16) (i : Fin 8192) (d : Fin 128) :
    yof o e v119 v134 (ix4 n h i d) = Ideal.div (∑ k : Fin 64, o (ix5 ⟨n.val * 16 + h.val, by omega⟩ ⟨i.val / 128, by omega⟩ ⟨i.val % 128, by omega⟩ k d)
      * Ideal.exp2 (e (ix5 ⟨n.val * 16 + h.val, by omega⟩ ⟨i.val / 128, by omega⟩ 0 k 0)) * v119 (ix5 ⟨n.val * 16 + h.val, by omega⟩ 0 0 k 0))
      (v134 (ix3 ⟨n.val * 16 + h.val, by omega⟩ ⟨i.val / 128, by omega⟩ ⟨i.val % 128, by omega⟩)) := by
  unfold yof
  pointwise
  try rfl

/-- The attention's result is that formula applied to the weights' codes and exponents. -/
theorem pay21_eq (v97 : FVec Ideal S8x8192x2x128 .fp8e4m3) (v119 : FVec Ideal S128x1x1x64x1 .f32) (p : FVec Ideal S128x64x128x64x128 .f32) (v134 : FVec Ideal S128x64x128 .f32) :
    k0_pay21 (F := Ideal) v97 v119 p v134 = yof (oacc (pcod p (ev (pamax p))) v97) (ev (pamax p)) v119 v134 := rfl

/-- The stored result is the heads' results side by side. -/
theorem pay1_at (y : FVec Ideal S8x16x8192x128 .f32) (n : Fin 8) (i : Fin 8192) (c : Fin 2048) :
    k0_pay1 (F := Ideal) y (ix3 n i c) = y (ix4 n ⟨c.val / 128, by omega⟩ i ⟨c.val % 128, by omega⟩) := by
  unfold k0_pay1
  pointwise

end Cert.ReferenceIdeal.Val

end
-- ==== Proof.AttnEqual.lean ====
module

public import proofs.«01_k».proof.Proof.AttnMath
public import proofs.«01_k».proof.Proof.AttnArray
public import proofs.«01_k».proof.Proof.RefAttn

@[expose] public section

set_option maxRecDepth 16384

noncomputable section

namespace Cert.Equal

open Idealize.ShloMosaic Idealize.ShloMosaic.TcCoe
open Cert.Val
open Cert.KernelIdeal (S8x8192x2048 S8x64x1x2048 S8x8192x256 S8x64x256 S8x256x8192)
open Cert.KernelIdeal.Val (b0 b1 b2 b3 b4 Yk YK Yk_congr yBlk yAt raw qcat cq lane laneBase sco tops topw ewr weight_real acc_eq lsum_eq)
open Cert.ReferenceIdeal (S8x8192x16x128 S8x64x16 S8x8192x2x128 S8x64x2 S128x1x1x64x1)
open Cert.ReferenceIdeal.Val (ln2 ln2_eq rcode rraw rraw_at rsc rsc_at rtop rtop_at pay19_at pay20_at ev ev_at pamax pamax_at pcod pcod_at oacc oacc_at yof yof_at pay21_eq pay1_at)
open Cert.ReferenceIdeal.Gen (k0_pay1 k0_pay19 k0_pay20 k0_pay21)

/-- The softmax scale is a positive real number. -/
theorem bits_scale : Ideal.ofBits .f32 1035273459#32 = ((11863283 / 134217728 : ℝ) : EReal) := by
  have h1 : (BitVec.extractLsb' 23 8 1035273459#32).toNat = 123 := by decide
  have h2 : (BitVec.extractLsb' 0 23 1035273459#32).toNat = 3474675 := by decide
  have h3 : (BitVec.extractLsb' (8 + 23) 1 1035273459#32 == 1#1) = false := by decide
  simp only [Ideal.ofBits, Ideal.ieee, h1, h2, h3]
  norm_num

/-- The column of row `r` of head `h` in its block of two heads. -/
def col (h : Fin 16) (r : Fin 128) : Fin 256 := ⟨h.val % 2 * 128 + r.val, by omega⟩

/-- The number of the pair of heads that head `h` belongs to. -/
def pair (h : Fin 16) : Fin 8 := ⟨h.val / 2, by omega⟩

/-- The key head that query head `h` reads. -/
def kvh (h : Fin 16) : Fin 2 := ⟨h.val / 2 / 4, by omega⟩

/-- The batch's and head's number among all heads of all batches. -/
def hd (n : Fin 8) (h : Fin 16) : Fin 128 := ⟨n.val * 16 + h.val, by omega⟩

/-- The batch, from the head's number among all heads. -/
theorem hd_batch (n : Fin 8) (h : Fin 16) (p) : (⟨(hd n h).val / 16, p⟩ : Fin 8) = n := Fin.ext (by simp only [hd]; omega)

/-- The head, from its number among all heads. -/
theorem hd_head (n : Fin 8) (h : Fin 16) (p) : (⟨(hd n h).val % 16, p⟩ : Fin 16) = h := Fin.ext (by simp only [hd]; omega)

/-- The key head, from the head's number among all heads. -/
theorem hd_kv (n : Fin 8) (h : Fin 16) (p) : (⟨(hd n h).val / 8 % 2, p⟩ : Fin 2) = kvh h := Fin.ext (by simp only [hd, kvh]; omega)

/-- A head's column is its row's lane. -/
theorem lane_col (h : Fin 16) (r : Fin 128) : lane (col h r) = r := by
  unfold lane
  split
  next hl =>
    exact Fin.ext (by change h.val % 2 * 128 + r.val < 128 at hl; show h.val % 2 * 128 + r.val = r.val; omega)
  next hl =>
    exact Fin.ext (by change ¬ h.val % 2 * 128 + r.val < 128 at hl; show h.val % 2 * 128 + r.val - 128 = r.val; omega)

/-- The columns of a head's query block. -/
theorem laneBase_col (h : Fin 16) (r q : Fin 128) : laneBase (col h r) q = col h q := by
  unfold laneBase
  split
  next hl =>
    exact Fin.ext (by change h.val % 2 * 128 + r.val < 128 at hl; show q.val = h.val % 2 * 128 + q.val; omega)
  next hl =>
    exact Fin.ext (by change ¬ h.val % 2 * 128 + r.val < 128 at hl; show 128 + q.val = h.val % 2 * 128 + q.val; omega)

section
variable (A0 : FVec Ideal S8x8192x2048 .fp8e4m3) (A1 : FVec Ideal S8x64x1x2048 .f32) (A2 : FVec Ideal S8x8192x256 .fp8e4m3) (A3 : FVec Ideal S8x64x256 .f32)
  (A4 : FVec Ideal S8x256x8192 .fp8e4m3) (A5 : FVec Ideal S8x64x256 .f32)
  (q : FVec Ideal S8x8192x16x128 .fp8e4m3) (qs : FVec Ideal S8x64x16 .f32) (k : FVec Ideal S8x8192x2x128 .fp8e4m3) (ks : FVec Ideal S8x64x2 .f32)
  (v : FVec Ideal S8x8192x2x128 .fp8e4m3) (vs : FVec Ideal S128x1x1x64x1 .f32)

/-- The kernel's operands hold the reference's codes and scales: codes with the heads side by side, the values'
    transposed, each scale once per lane of its head. The codes are real numbers and the scales real and not negative. -/
structure Agree : Prop where
  h0 : ∀ n i (h : Fin 16) (d : Fin 128) p, A0 (ix3 n i ⟨h.val * 128 + d.val, p⟩) = q (ix4 n i h d)
  h1 : ∀ n g (h : Fin 16) (d : Fin 128) p, A1 (ix4 n g 0 ⟨h.val * 128 + d.val, p⟩) = qs (ix3 n g h)
  h2 : ∀ n i (h : Fin 2) (d : Fin 128) p, A2 (ix3 n i ⟨h.val * 128 + d.val, p⟩) = k (ix4 n i h d)
  h3 : ∀ n g (h : Fin 2) (d : Fin 128) p, A3 (ix3 n g ⟨h.val * 128 + d.val, p⟩) = ks (ix3 n g h)
  h4 : ∀ n i (h : Fin 2) (d : Fin 128) p, A4 (ix3 n ⟨h.val * 128 + d.val, p⟩ i) = v (ix4 n i h d)
  h5 : ∀ n h g (d : Fin 128) p, A5 (ix3 n g ⟨(kvh h).val * 128 + d.val, p⟩) = vs (ix5 (hd n h) 0 0 g 0)
  r0 : ∀ i, ∃ x : ℝ, A0 i = (x : EReal)
  r1 : ∀ i, ∃ x : ℝ, 0 ≤ x ∧ A1 i = (x : EReal)
  r2 : ∀ i, ∃ x : ℝ, A2 i = (x : EReal)
  r3 : ∀ i, ∃ x : ℝ, 0 ≤ x ∧ A3 i = (x : EReal)

variable (W : Agree A0 A1 A2 A3 A4 A5 q qs k ks v vs) (n : Fin 8) (g : Fin 64) (h : Fin 16)
include W

/-- The query codes that a grid point reads are real numbers. -/
theorem qcat_real (T : Fin 8) (l : Fin 256) (d : Fin 128) : ∃ x : ℝ, qcat (b0 A0 n g T) l d = (x : EReal) := by
  unfold qcat
  split
  · exact W.r0 _
  · exact W.r0 _

/-- The raw scores of a grid point are real numbers. -/
theorem raw_real (i) : ∃ x : ℝ, raw (b0 A0 n g (pair h)) (b2 A2 n (pair h)) i = (x : EReal) := by
  choose x hx using fun d => qcat_real A0 A1 A2 A3 A4 A5 q qs k ks v vs W n g (pair h) (i 1) d
  choose y hy using fun d : Fin 128 => W.r2 (ix3 n (i 0) ⟨(pair h).val / 4 * 128 + d.val, by have := (pair h).isLt; omega⟩)
  refine ⟨∑ d, y d * x d, ?_⟩
  rw [coe_sum]
  refine Finset.sum_congr rfl fun d _ => ?_
  rw [hx d, EReal.coe_mul, ← hy d]
  rfl

/-- The scales of a grid point's query columns are real numbers, not negative. -/
theorem cq_real (l) : ∃ x : ℝ, 0 ≤ x ∧ cq (b1 A1 n g (pair h)) l = (x : EReal) := by
  obtain ⟨x, hx, ex⟩ := W.r1 (ix4 n g 0 ⟨(pair h).val * 256 + l.val, by have := (pair h).isLt; omega⟩)
  refine ⟨x * (11863283 / 134217728), by positivity, ?_⟩
  rw [EReal.coe_mul, ← ex, ← bits_scale]
  rfl

/-- The keys' scales that a grid point reads are real numbers, not negative. -/
theorem ks_real' (i) : ∃ x : ℝ, 0 ≤ x ∧ b3 A3 n (pair h) i = (x : EReal) := W.r3 _

/-- The kernel's scaled score is the reference's. -/
theorem sco_at (r : Fin 128) (j : Fin 64) (b : Fin 128) : sco (b0 A0 n g (pair h)) (b1 A1 n g (pair h)) (b2 A2 n (pair h)) (b3 A3 n (pair h)) j b (col h r)
    = rsc (rraw q k) qs ks (ix5 (hd n h) g r j b) := by
  rw [rsc_at, rraw_at, hd_batch, hd_head, hd_kv]
  have e0 : ∀ d : Fin 128, qcat (b0 A0 n g (pair h)) (col h r) d = q (ix4 n ⟨g.val * 128 + r.val, by omega⟩ h d) := by
    intro d
    rw [← W.h0 n ⟨g.val * 128 + r.val, by omega⟩ h d (by omega)]
    unfold qcat
    split
    next hl =>
      simp only [col] at hl
      show A0 (ix3 n ⟨g.val * 128 + (h.val % 2 * 128 + r.val), _⟩ ⟨h.val / 2 * 256 + d.val, _⟩) = _
      congr 2 <;> exact Fin.ext (by simp only; omega)
    next hl =>
      simp only [col] at hl
      show A0 (ix3 n ⟨g.val * 128 + (h.val % 2 * 128 + r.val - 128), _⟩ ⟨h.val / 2 * 256 + (128 + d.val), _⟩) = _
      congr 2 <;> exact Fin.ext (by simp only; omega)
  have e2 : ∀ d : Fin 128, b2 A2 n (pair h) (ix3 0 ⟨j.val * 128 + b.val, by omega⟩ d) = k (ix4 n ⟨j.val * 128 + b.val, by omega⟩ (kvh h) d) := fun d =>
    W.h2 n ⟨j.val * 128 + b.val, by omega⟩ (kvh h) d _
  have e3 : b3 A3 n (pair h) (ix3 0 j (lane (col h r))) = ks (ix3 n j (kvh h)) := by
    rw [lane_col]
    exact W.h3 n j (kvh h) r _
  have e1 : cq (b1 A1 n g (pair h)) (col h r) = qs (ix3 n g h) * Ideal.ofBits .f32 1035273459#32 := by
    rw [← W.h1 n g h r (by omega)]
    show A1 (ix4 n g 0 ⟨h.val / 2 * 256 + (h.val % 2 * 128 + r.val), _⟩) * _ = _
    congr 3
    exact Fin.ext (by simp only; omega)
  have e : raw (b0 A0 n g (pair h)) (b2 A2 n (pair h)) (ix2 ⟨j.val * 128 + b.val, by omega⟩ (col h r))
      = ∑ d : Fin 128, q (ix4 n ⟨g.val * 128 + r.val, by omega⟩ h d) * k (ix4 n ⟨j.val * 128 + b.val, by omega⟩ (kvh h) d) := by
    show ∑ d : Fin 128, b2 A2 n (pair h) (ix3 0 ⟨j.val * 128 + b.val, by omega⟩ d) * qcat (b0 A0 n g (pair h)) (col h r) d = _
    exact Finset.sum_congr rfl fun d _ => by rw [e0, e2, mul_comm]
  rw [sco, e, e1, e3]

/-- The largest score of a row. -/
theorem tops_at (r : Fin 128) (j : Fin 64) (b : Fin 128) : tops (b0 A0 n g (pair h)) (b1 A1 n g (pair h)) (b2 A2 n (pair h)) (b3 A3 n (pair h)) (col h r)
    = rtop (rsc (rraw q k) qs ks) (ix5 (hd n h) g r j b) := by
  rw [rtop_at]
  simp only [← sco_at A0 A1 A2 A3 A4 A5 q qs k ks v vs W n g h r]
  rfl

/-- The weights. -/
theorem weight_at (r : Fin 128) (j : Fin 64) (b : Fin 128) : k0_pay19 (F := Ideal) q qs k ks (ix5 (hd n h) g r j b)
    = Ideal.exp (sco (b0 A0 n g (pair h)) (b1 A1 n g (pair h)) (b2 A2 n (pair h)) (b3 A3 n (pair h)) j b (col h r)
      - tops (b0 A0 n g (pair h)) (b1 A1 n g (pair h)) (b2 A2 n (pair h)) (b3 A3 n (pair h)) (col h r)) := by
  rw [pay19_at, sco_at A0 A1 A2 A3 A4 A5 q qs k ks v vs W, tops_at A0 A1 A2 A3 A4 A5 q qs k ks v vs W n g h r j b]

/-- A weight is its own magnitude. -/
theorem weight_abs (r : Fin 128) (j : Fin 64) (b : Fin 128) : max (k0_pay19 (F := Ideal) q qs k ks (ix5 (hd n h) g r j b)) (-(k0_pay19 (F := Ideal) q qs k ks (ix5 (hd n h) g r j b)))
    = k0_pay19 (F := Ideal) q qs k ks (ix5 (hd n h) g r j b) := by
  obtain ⟨s, M, -, hs, hM⟩ := weight_real _ _ _ _ (raw_real A0 A1 A2 A3 A4 A5 q qs k ks v vs W n g h) (cq_real A0 A1 A2 A3 A4 A5 q qs k ks v vs W n g h)
    (ks_real' A0 A1 A2 A3 A4 A5 q qs k ks v vs W n h) j b (col h r)
  rw [weight_at A0 A1 A2 A3 A4 A5 q qs k ks v vs W, hs, hM, ← EReal.coe_sub, Ideal.exp_coe, ← EReal.coe_neg]
  have := Real.exp_pos (s - M)
  exact max_eq_left (EReal.coe_le_coe_iff.2 (by linarith))

/-- The exponent of a block of weights. -/
theorem ewr_at (r : Fin 128) (j : Fin 64) : ev (pamax (k0_pay19 (F := Ideal) q qs k ks)) (ix5 (hd n h) g 0 j 0)
    = ewr (b0 A0 n g (pair h)) (b1 A1 n g (pair h)) (b2 A2 n (pair h)) (b3 A3 n (pair h)) j (col h r) := by
  rw [ev_at, ln2_eq, pamax_at, ewr]
  congr 1
  unfold topw
  simp only [weight_abs A0 A1 A2 A3 A4 A5 q qs k ks v vs W]
  simp only [laneBase_col, weight_at A0 A1 A2 A3 A4 A5 q qs k ks v vs W]
  rfl

/-- The attention result of one row, one head and one dimension. -/
theorem y_at (r d : Fin 128) : yAt (b0 A0 n g (pair h)) (b1 A1 n g (pair h)) (b2 A2 n (pair h)) (b3 A3 n (pair h)) (b4 A4 n (pair h)) (b3 A5 n (pair h)) d (col h r)
    = Ideal.div (∑ j : Fin 64, oacc (pcod (k0_pay19 (F := Ideal) q qs k ks) (ev (pamax (k0_pay19 (F := Ideal) q qs k ks)))) v (ix5 (hd n h) g r j d)
      * Ideal.exp2 (ev (pamax (k0_pay19 (F := Ideal) q qs k ks)) (ix5 (hd n h) g 0 j 0)) * vs (ix5 (hd n h) 0 0 j 0))
      (k0_pay20 (F := Ideal) q qs k ks (ix3 (hd n h) g r)) := by
  have R1 := raw_real A0 A1 A2 A3 A4 A5 q qs k ks v vs W n g h
  have R2 := cq_real A0 A1 A2 A3 A4 A5 q qs k ks v vs W n g h
  have R3 := ks_real' A0 A1 A2 A3 A4 A5 q qs k ks v vs W n h
  rw [yAt, acc_eq _ _ _ _ _ _ R1 R2 R3, lsum_eq _ _ _ _ R1 R2 R3, pay20_at]
  simp only [← weight_at A0 A1 A2 A3 A4 A5 q qs k ks v vs W, ← ewr_at A0 A1 A2 A3 A4 A5 q qs k ks v vs W, oacc_at, pcod_at, hd_batch, hd_kv, lane_col]
  congr 1
  refine Finset.sum_congr rfl fun j _ => ?_
  have e5 : b3 A5 n (pair h) (ix3 0 j r) = vs (ix5 (hd n h) 0 0 j 0) := W.h5 n h j r _
  rw [e5]
  congr 2
  refine Finset.sum_congr rfl fun b _ => ?_
  have e4 : b4 A4 n (pair h) (ix3 0 d ⟨j.val * 128 + b.val, by omega⟩) = v (ix4 n ⟨j.val * 128 + b.val, by omega⟩ (kvh h) d) := W.h4 n _ (kvh h) d _
  rw [e4]
  rfl

/-- The whole attention result. -/
theorem y_eq : YK A0 A1 A2 A3 A4 A5 = k0_pay1 (F := Ideal) (k0_pay21 (F := Ideal) v vs (k0_pay19 (F := Ideal) q qs k ks) (k0_pay20 (F := Ideal) q qs k ks)) := by
  funext y
  idx_vars y
  rw [pay1_at, pay21_eq, yof_at]
  refine Eq.trans ?_ (y_at A0 A1 A2 A3 A4 A5 q qs k ks v vs W y0 ⟨y1.val / 128, by omega⟩ ⟨y2.val / 128, by omega⟩ ⟨y1.val % 128, by omega⟩ ⟨y2.val % 128, by omega⟩)
  have hT : (⟨y2.val / 256, by omega⟩ : Fin 8) = pair ⟨y2.val / 128, by omega⟩ := Fin.ext (by simp only [pair]; omega)
  show yAt (b0 A0 y0 ⟨y1.val / 128, _⟩ ⟨y2.val / 256, _⟩) (b1 A1 y0 ⟨y1.val / 128, _⟩ ⟨y2.val / 256, _⟩) (b2 A2 y0 ⟨y2.val / 256, _⟩) (b3 A3 y0 ⟨y2.val / 256, _⟩)
    (b4 A4 y0 ⟨y2.val / 256, _⟩) (b3 A5 y0 ⟨y2.val / 256, _⟩) ⟨y2.val % 256 % 128, _⟩ ⟨y2.val % 256 / 128 * 128 + y1.val % 128, _⟩ = _
  rw [hT]
  congr 1
  · exact Fin.ext (by simp only; omega)
  · exact Fin.ext (by simp only [col]; omega)

end

end Cert.Equal

end
-- ==== Proof.KernelRun.lean ====
module

public import proofs.«01_k».proof.Proof.Gen.KernelIdeal.Frame

@[expose] public section

set_option maxRecDepth 16384

noncomputable section

namespace Cert.KernelIdeal.Val

open Idealize.ShloMosaic Idealize.ShloMosaic.Tactic Idealize.ShloMosaic.TcCoe Idealize.SL.Sem
open Idealize.ShloMosaic.Pipeline (Dat)
open Cert.KernelIdeal Cert.KernelIdeal.Gen
open Idealize.SL Idealize.SL.RA Idealize.SL.BI
open scoped Idealize.SL.BI
open Idealize.SL.BI.BIBase Idealize.SL.BI.Laws Idealize.SL.ProofMode
open Idealize.ShloMosaic.Rounds

local notation "𝕄" => MT nD τ sig Unit (Elt Ideal) ℕ (UR sig nD τ) ℕ

variable (m : (ℓ : Loc nD τ sig) → Buf (Elt Ideal) ℓ)
variable (ρ : Dev nD → PrngReg)

set_option backward.isDefEq.respectTransparency.types false in
/-- The run leaves every buffer of the core that lies outside the calls' own storage as the fold through the program says. -/
theorem run_all : θ_run defs (onTc (τ := τ) (main (F := Ideal))) ⟨m, fun _ => 0, ρ⟩ (fun r => ∀ (c : Dev nD) (b : Ref sig .tc), ¬ (Proc.devRef .tc b : DevRef τ sig).isScoped →
      r.2.mem ((c.tc : Thread nD τ).loc b) = W4 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

end Cert.KernelIdeal.Val

end
-- ==== Proof.KernelValues.lean ====
module

public import proofs.«01_k».proof.Proof.QuantArrays
public import proofs.«01_k».proof.Proof.AttnArray
public import proofs.«01_k».proof.Proof.KernelRun
public import Idealize.ShloMosaic.Lib.Claim

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen
open Cert.Val

variable (m : (ℓ : Loc nD τ sig) → Buf (Elt Ideal) ℓ) (ρ : Dev nD → PrngReg) (c : Dev nD)

/-- The queries. -/
abbrev Xq : FVec Ideal S8x8192x2048 .bf16 := m ((c : Thread nD τ).loc main_arg0)

/-- The keys. -/
abbrev Xk : FVec Ideal S8x8192x256 .bf16 := m ((c : Thread nD τ).loc main_arg1)

/-- The values. -/
abbrev Xv : FVec Ideal S8x8192x256 .bf16 := m ((c : Thread nD τ).loc main_arg2)

/-- Before the attention call this array holds the queries' codes. -/
theorem V2_0 : V2 m ρ c main_v0_0 = Qc (Xq m c) :=
  (W2_of m ρ c main_v0_0 (by decide)).trans ((W1_arr m ρ c 3).trans (final0_3 (V0 m ρ) c))

/-- Before the attention call this array holds the queries' scales. -/
theorem V2_1 : V2 m ρ c main_v0_1 = Qs (Xq m c) :=
  (W2_of m ρ c main_v0_1 (by decide)).trans ((W1_arr m ρ c 4).trans (final0_4 (V0 m ρ) c))

/-- Before the attention call this array holds the keys' codes. -/
theorem V2_2 : V2 m ρ c main_v0_2 = Kc (Xk m c) :=
  (W2_of m ρ c main_v0_2 (by decide)).trans ((W1_arr m ρ c 5).trans (final0_5 (V0 m ρ) c))

/-- Before the attention call this array holds the keys' scales. -/
theorem V2_3 : V2 m ρ c main_v0_3 = Ks (Xk m c) :=
  (W2_of m ρ c main_v0_3 (by decide)).trans ((W1_arr m ρ c 6).trans (final0_6 (V0 m ρ) c))

/-- Before the attention call this array holds the values' codes. -/
theorem V2_4 : V2 m ρ c main_v0_4 = Kc (Xv m c) :=
  (W2_of m ρ c main_v0_4 (by decide)).trans ((W1_arr m ρ c 7).trans (final0_7 (V0 m ρ) c))

/-- Before the attention call this array holds the values' scales. -/
theorem V2_5 : V2 m ρ c main_v0_5 = Ks (Xv m c) :=
  (W2_of m ρ c main_v0_5 (by decide)).trans ((W1_arr m ρ c 8).trans (final0_8 (V0 m ρ) c))

/-- Before the attention call this array holds the values' codes, transposed. -/
theorem V2_6 : V2 m ρ c main_v0_6 = Vt (Xv m c) :=
  (W2_of m ρ c main_v0_6 (by decide)).trans ((W1_arr m ρ c 9).trans (final0_9 (V0 m ρ) c))

/-- The queries' scales with the extra axis the attention call wants. -/
theorem V2_main_v1 : V2 m ρ c main_v1 = shapeCast S8x64x1x2048 (Qs (Xq m c)) shapeCasts_S8x64x2048_S8x64x1x2048 := by
  have h : W1 m ρ c (Proc.devRef .tc main_v0_1) = Qs (Xq m c) := (W1_arr m ρ c 4).trans (final0_4 (V0 m ρ) c)
  show StableHlo.after hostOps1 (W1 m ρ c) (Proc.devRef .tc main_v1) = _
  entry_read
  rw [h]
  rfl

/-- The attention result the run leaves. -/
theorem W4_y : W4 m ρ c (Proc.devRef .tc main_v2)
    = YK (Qc (Xq m c)) (shapeCast S8x64x1x2048 (Qs (Xq m c)) shapeCasts_S8x64x2048_S8x64x1x2048) (Kc (Xk m c)) (Ks (Xk m c)) (Vt (Xv m c)) (Ks (Xv m c)) := by
  refine (W4_of m ρ c main_v2 (by decide)).trans ((W3_arr m ρ c 6).trans ((final1_6 (V2 m ρ) c).trans ?_))
  rw [V2_0, V2_main_v1, V2_2, V2_3, V2_6, V2_5]

/-- The attention call leaves the queries' codes as they were. -/
theorem W3_0 : W3 m ρ c (Proc.devRef .tc main_v0_0) = V2 m ρ c main_v0_0 := W3_of m ρ c main_v0_0 (by decide +kernel)

/-- The attention call leaves the queries' scales as they were. -/
theorem W3_1 : W3 m ρ c (Proc.devRef .tc main_v0_1) = V2 m ρ c main_v0_1 := W3_of m ρ c main_v0_1 (by decide +kernel)

/-- The attention call leaves the keys' codes as they were. -/
theorem W3_2 : W3 m ρ c (Proc.devRef .tc main_v0_2) = V2 m ρ c main_v0_2 := W3_of m ρ c main_v0_2 (by decide +kernel)

/-- The attention call leaves the keys' scales as they were. -/
theorem W3_3 : W3 m ρ c (Proc.devRef .tc main_v0_3) = V2 m ρ c main_v0_3 := W3_of m ρ c main_v0_3 (by decide +kernel)

/-- The attention call leaves the values' codes as they were. -/
theorem W3_4 : W3 m ρ c (Proc.devRef .tc main_v0_4) = V2 m ρ c main_v0_4 := W3_of m ρ c main_v0_4 (by decide +kernel)

/-- The attention call leaves the values' scales as they were. -/
theorem W3_5 : W3 m ρ c (Proc.devRef .tc main_v0_5) = V2 m ρ c main_v0_5 := W3_of m ρ c main_v0_5 (by decide +kernel)

/-- The queries' codes that the run returns. -/
theorem W4_v3 : W4 m ρ c (Proc.devRef .tc main_v3) = shapeCast S8x8192x16x128 (Qc (Xq m c)) shapeCasts_S8x8192x2048_S8x8192x16x128 := by
  show StableHlo.after hostOps2 (W3 m ρ c) (Proc.devRef .tc main_v3) = _
  entry_read
  rw [W3_0, V2_0]
  rfl

/-- The keys' codes that the run returns. -/
theorem W4_v7 : W4 m ρ c (Proc.devRef .tc main_v7) = shapeCast S8x8192x2x128 (Kc (Xk m c)) shapeCasts_S8x8192x256_S8x8192x2x128 := by
  show StableHlo.after hostOps2 (W3 m ρ c) (Proc.devRef .tc main_v7) = _
  entry_read
  rw [W3_2, V2_2]
  rfl

/-- The values' codes that the run returns. -/
theorem W4_v11 : W4 m ρ c (Proc.devRef .tc main_v11) = shapeCast S8x8192x2x128 (Kc (Xv m c)) shapeCasts_S8x8192x256_S8x8192x2x128 := by
  show StableHlo.after hostOps2 (W3 m ρ c) (Proc.devRef .tc main_v11) = _
  entry_read
  rw [W3_4, V2_4]
  rfl

/-- The queries' scales that the run returns: the first lane of each head. -/
theorem W4_v6 : W4 m ρ c (Proc.devRef .tc main_v6) = shapeCast S8x64x16 (extractStridedSlice S8x64x16x1 ![0, 0, 0, 0]
    (shapeCast S8x64x16x128 (Qs (Xq m c)) shapeCasts_S8x64x2048_S8x64x16x128) slices_S8x64x16x128_S8x64x16x1_0_0_0_0) shapeCasts_S8x64x16x1_S8x64x16 := by
  show StableHlo.after hostOps2 (W3 m ρ c) (Proc.devRef .tc main_v6) = _
  entry_read
  rw [W3_1, V2_1]
  rfl

/-- The keys' scales that the run returns: the first lane of each head. -/
theorem W4_v10 : W4 m ρ c (Proc.devRef .tc main_v10) = shapeCast S8x64x2 (extractStridedSlice S8x64x2x1 ![0, 0, 0, 0]
    (shapeCast S8x64x2x128 (Ks (Xk m c)) shapeCasts_S8x64x256_S8x64x2x128) slices_S8x64x2x128_S8x64x2x1_0_0_0_0) shapeCasts_S8x64x2x1_S8x64x2 := by
  show StableHlo.after hostOps2 (W3 m ρ c) (Proc.devRef .tc main_v10) = _
  entry_read
  rw [W3_3, V2_3]
  rfl

/-- The values' scales that the run returns: the first lane of each head. -/
theorem W4_v14 : W4 m ρ c (Proc.devRef .tc main_v14) = shapeCast S8x64x2 (extractStridedSlice S8x64x2x1 ![0, 0, 0, 0]
    (shapeCast S8x64x2x128 (Ks (Xv m c)) shapeCasts_S8x64x256_S8x64x2x128) slices_S8x64x2x128_S8x64x2x1_0_0_0_0) shapeCasts_S8x64x2x1_S8x64x2 := by
  show StableHlo.after hostOps2 (W3 m ρ c) (Proc.devRef .tc main_v14) = _
  entry_read
  rw [W3_5, V2_5]
  rfl

end Cert.KernelIdeal.Val

end
-- ==== Proof.RefRun.lean ====
module

public import proofs.«01_k».proof.Proof.Gen.ReferenceIdeal.Frame
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Val

open Idealize.ShloMosaic Idealize.ShloMosaic.TcCoe Idealize.SL.Sem
open Idealize.ShloMosaic.Pipeline (Dat)
open Cert.ReferenceIdeal Cert.ReferenceIdeal.Gen

/-- The offsets of a whole three-axis window are zero. -/
theorem hz3 : (![0, 0, 0] : Fin 3 → Nat) = fun _ => 0 := funext fun a => by fin_cases a <;> rfl

/-- The offsets of a whole four-axis window are zero. -/
theorem hz4 : (![0, 0, 0, 0] : Fin 4 → Nat) = fun _ => 0 := funext fun a => by fin_cases a <;> rfl

section
variable (x : FVec Ideal S8x8192x2048 .bf16) (k v : FVec Ideal S8x8192x256 .bf16)

/-- The attention result, from the three arguments. -/
abbrev G3 : FVec Ideal S8x8192x2048 .bf16 :=
  k0_pay1 (F := Ideal) (k0_pay21 (F := Ideal) (k0_pay29 (F := Ideal) x k v) (k0_pay18 (F := Ideal) (k0_pay27 (F := Ideal) x k v) (k0_pay28 (F := Ideal) x k v) (Scalar.ofBits .f32 0x00000000#32)) (k0_pay19 (F := Ideal) (k0_pay22 (F := Ideal) x k v) (k0_pay23 (F := Ideal) x k v) (k0_pay25 (F := Ideal) x k v) (k0_pay26 (F := Ideal) x k v))
    (k0_pay20 (F := Ideal) (k0_pay22 (F := Ideal) x k v) (k0_pay23 (F := Ideal) x k v) (k0_pay25 (F := Ideal) x k v) (k0_pay26 (F := Ideal) x k v)))

/-- The body stores the attention result whole. -/
theorem out3 : out0_3 (F := Ideal) x k v = G3 x k v := View.canon_unit_zero hz3 _ _

/-- The queries' codes, from the three arguments. -/
abbrev G4 : FVec Ideal S8x8192x16x128 .fp8e4m3 :=
  k0_pay22 (F := Ideal) x k v

/-- The body stores the queries' codes whole. -/
theorem out4 : out0_4 (F := Ideal) x k v = G4 x k v := View.canon_unit_zero hz4 _ _

/-- The queries' scales, from the three arguments. -/
abbrev G5 : FVec Ideal S8x64x16 .f32 :=
  k0_pay23 (F := Ideal) x k v

/-- The body stores the queries' scales whole. -/
theorem out5 : out0_5 (F := Ideal) x k v = G5 x k v := View.canon_unit_zero hz3 _ _

/-- The keys' codes, from the three arguments. -/
abbrev G6 : FVec Ideal S8x8192x2x128 .fp8e4m3 :=
  k0_pay25 (F := Ideal) x k v

/-- The body stores the keys' codes whole. -/
theorem out6 : out0_6 (F := Ideal) x k v = G6 x k v := View.canon_unit_zero hz4 _ _

/-- The keys' scales, from the three arguments. -/
abbrev G7 : FVec Ideal S8x64x2 .f32 :=
  k0_pay26 (F := Ideal) x k v

/-- The body stores the keys' scales whole. -/
theorem out7 : out0_7 (F := Ideal) x k v = G7 x k v := View.canon_unit_zero hz3 _ _

/-- The values' codes, from the three arguments. -/
abbrev G8 : FVec Ideal S8x8192x2x128 .fp8e4m3 :=
  k0_pay29 (F := Ideal) x k v

/-- The body stores the values' codes whole. -/
theorem out8 : out0_8 (F := Ideal) x k v = G8 x k v := View.canon_unit_zero hz4 _ _

/-- The values' scales, from the three arguments. -/
abbrev G9 : FVec Ideal S8x64x2 .f32 :=
  k0_pay17 (F := Ideal) (k0_pay27 (F := Ideal) x k v) (k0_pay28 (F := Ideal) x k v) (Scalar.ofBits .f32 0x00000000#32)

/-- The body stores the values' scales whole. -/
theorem out9 : out0_9 (F := Ideal) x k v = G9 x k v := View.canon_unit_zero hz3 _ _

end

/-- Every window sits at its array's corner: the one point's blocks are the arrays. -/
theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0, 0] ∧ win0_5.index t = ![0, 0, 0] ∧ win0_6.index t = ![0, 0, 0, 0] ∧ win0_7.index t = ![0, 0, 0]
    ∧ win0_8.index t = ![0, 0, 0, 0] ∧ win0_9.index t = ![0, 0, 0] :=
  (by decide +kernel : ∀ t : Fin grid0.N, _)

section
variable (m : (ℓ : Loc nD τ sig) → Buf (Elt Ideal) ℓ) (ρ : Dev nD → PrngReg) (c : Dev nD)

/-- The body reads the queries whole. -/
theorem blk_x (t : Fin cfg0.N) : iblk m c 0 t = m ((c : Thread nD τ).loc main_arg0) := by
  rw [← V_main_arg0 m c]
  blk_ext! [iblk, idx t]

/-- The body reads the keys whole. -/
theorem blk_k (t : Fin cfg0.N) : iblk m c 1 t = m ((c : Thread nD τ).loc main_arg1) := by
  rw [← V_main_arg1 m c]
  blk_ext! [iblk, idx t]

/-- The body reads the values whole. -/
theorem blk_v (t : Fin cfg0.N) : iblk m c 2 t = m ((c : Thread nD τ).loc main_arg2) := by
  rw [← V_main_arg2 m c]
  blk_ext! [iblk, idx t]

/-- After the call this output array holds the attention result. -/
theorem final3 : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, out3, blk_x, blk_k, blk_v]
  generalize G3 _ _ _ = G
  blk_ext [idx t]

/-- After the call this output array holds the queries' codes. -/
theorem final4 : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, out4, blk_x, blk_k, blk_v]
  generalize G4 _ _ _ = G
  blk_ext [idx t]

/-- After the call this output array holds the queries' scales. -/
theorem final5 : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, out5, blk_x, blk_k, blk_v]
  generalize G5 _ _ _ = G
  blk_ext [idx t]

/-- After the call this output array holds the keys' codes. -/
theorem final6 : (dats m 0 c).arrAt 6 cfg0.N = G6 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, out6, blk_x, blk_k, blk_v]
  generalize G6 _ _ _ = G
  blk_ext [idx t]

/-- After the call this output array holds the keys' scales. -/
theorem final7 : (dats m 0 c).arrAt 7 cfg0.N = G7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7, out7, blk_x, blk_k, blk_v]
  generalize G7 _ _ _ = G
  blk_ext [idx t]

/-- After the call this output array holds the values' codes. -/
theorem final8 : (dats m 0 c).arrAt 8 cfg0.N = G8 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8, out8, blk_x, blk_k, blk_v]
  generalize G8 _ _ _ = G
  blk_ext [idx t]

/-- After the call this output array holds the values' scales. -/
theorem final9 : (dats m 0 c).arrAt 9 cfg0.N = G9 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9, out9, blk_x, blk_k, blk_v]
  generalize G9 _ _ _ = G
  blk_ext [idx t]

/-- The reference's run ends with its seven functions of the arguments, and leaves the arguments alone. -/
theorem run : θ_run defs (onTc (τ := τ) (main (F := Ideal))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c), ((h c).1 6).trans (final6 m c), ((h c).1 7).trans (final7 m c), ((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end

end Cert.ReferenceIdeal.Val

end
-- ==== Proof.Results.lean ====
module

public import proofs.«01_k».proof.Proof.QuantEqual
public import proofs.«01_k».proof.Proof.AttnEqual
public import proofs.«01_k».proof.Proof.KernelValues
public import proofs.«01_k».proof.Proof.RefRun

@[expose] public section

set_option maxRecDepth 16384

noncomputable section

namespace Cert.Equal

open Idealize.ShloMosaic Idealize.ShloMosaic.TcCoe Idealize.SL.Sem
open Cert.Val
open Cert.KernelIdeal.Val (Qc Qs Kc Ks Vt YK)
open Cert.ReferenceIdeal.Gen
open Cert.ReferenceIdeal.Val (G3 G4 G5 G6 G7 G8 G9)

section
variable (x : FVec Ideal Cert.KernelIdeal.S8x8192x2048 .bf16) (k v : FVec Ideal Cert.KernelIdeal.S8x8192x256 .bf16)

/-- The reference reads its arguments whole. -/
theorem ld_x : (View.ld (Val := Elt Ideal) (e' := .bf16) x r0_0 : FVec Ideal Cert.KernelIdeal.S8x8192x2048 .bf16) = x := View.ld_unit_zero Cert.ReferenceIdeal.Val.hz3 _ _

/-- The reference reads its keys, and its values, whole. -/
theorem ld_k : (View.ld (Val := Elt Ideal) (e' := .bf16) k r0_1 : FVec Ideal Cert.KernelIdeal.S8x8192x256 .bf16) = k := View.ld_unit_zero Cert.ReferenceIdeal.Val.hz3 _ _

/-- The queries' codes, from the queries alone. -/
theorem ref_q : k0_pay22 (F := Ideal) x k v = k0_pay4 (F := Ideal) x := by rw [k0_pay22, ld_x]

/-- The queries' scales, from the queries alone. -/
theorem ref_qs : k0_pay23 (F := Ideal) x k v = k0_pay5 (F := Ideal) x := by rw [k0_pay23, ld_x]

/-- The keys' codes, from the keys alone. -/
theorem ref_k : k0_pay25 (F := Ideal) x k v = k0_pay9 (F := Ideal) (k0_pay6 (F := Ideal) k) (k0_pay7 (F := Ideal) k) (Scalar.ofBits .f32 0x3B124925#32) := by
  rw [k0_pay25, k0_pay24, ld_k]

/-- The keys' scales, from the keys alone. -/
theorem ref_ks : k0_pay26 (F := Ideal) x k v = k0_pay10 (F := Ideal) (k0_pay7 (F := Ideal) k) (Scalar.ofBits .f32 0x3B124925#32) := by
  rw [k0_pay26, k0_pay24, ld_k]

/-- The values' codes, from the values alone. -/
theorem ref_v : k0_pay29 (F := Ideal) x k v = k0_pay9 (F := Ideal) (k0_pay6 (F := Ideal) v) (k0_pay7 (F := Ideal) v) (Scalar.ofBits .f32 0x3B124925#32) := by
  rw [k0_pay29, k0_pay28, k0_pay27, ld_k, Cert.ReferenceIdeal.Val.codes_v]

/-- The values' scales, from the values alone. -/
theorem ref_vs : k0_pay17 (F := Ideal) (k0_pay27 (F := Ideal) x k v) (k0_pay28 (F := Ideal) x k v) (Scalar.ofBits .f32 0x00000000#32)
    = k0_pay10 (F := Ideal) (k0_pay7 (F := Ideal) v) (Scalar.ofBits .f32 0x3B124925#32) := by
  rw [k0_pay28, k0_pay27, ld_k, Cert.ReferenceIdeal.Val.scales_v]

variable (hx : Bounded x) (hk : Bounded k) (hv : Bounded v)
include hx hk hv

/-- The operands of the kernel's attention call hold what the reference's attention reads. -/
theorem agree (w) : Agree (Qc x) (shapeCast Cert.KernelIdeal.S8x64x1x2048 (Qs x) w) (Kc k) (Ks k) (Vt v) (Ks v)
    (k0_pay22 (F := Ideal) x k v) (k0_pay23 (F := Ideal) x k v) (k0_pay25 (F := Ideal) x k v) (k0_pay26 (F := Ideal) x k v) (k0_pay29 (F := Ideal) x k v)
    (k0_pay18 (F := Ideal) (k0_pay27 (F := Ideal) x k v) (k0_pay28 (F := Ideal) x k v) (Scalar.ofBits .f32 0x00000000#32)) where
  h0 n i h d p := by rw [ref_q]; exact qc_at x hx n i h d p
  h1 n g h d p := by
    rw [ref_qs, ← qs_at x hx n g h d p]
    generalize Qs x = Q
    pointwise
  h2 n i h d p := by rw [ref_k]; exact kc_at k hk n i h d p
  h3 n g h d p := by rw [ref_ks]; exact ks_at k hk n g h d p
  h4 n i h d p := by rw [ref_v]; exact vt_at v hv n i h d p
  h5 n h g d p := by
    rw [Cert.ReferenceIdeal.Val.pay18_at, ref_vs, hd_batch, hd_kv]
    exact ks_at v hv n g (kvh h) d p
  r0 := qc_real x hx
  r1 i := qs_real x hx _
  r2 := kc_real k hk
  r3 := ks_real k hk

/-- The kernel's attention result is the reference's. -/
theorem res_y (w) : YK (Qc x) (shapeCast Cert.KernelIdeal.S8x64x1x2048 (Qs x) w) (Kc k) (Ks k) (Vt v) (Ks v) = G3 x k v :=
  y_eq _ _ _ _ _ _ _ _ _ _ _ _ (agree x k v hx hk hv w)

end

end Cert.Equal

namespace Cert.Proof

open Idealize.ShloMosaic Idealize.ShloMosaic.TcCoe Idealize.SL.Sem
open Cert.Equal
open Cert.KernelIdeal.Val
open Cert.ReferenceIdeal.Val (G3 G4 G5 G6 G7 G8 G9)

/-- The kernel's run ends with the reference's seven functions of the arguments, and leaves the arguments alone. -/
theorem kernel_run (m : (ℓ : Loc Cert.KernelIdeal.nD Cert.KernelIdeal.τ Cert.KernelIdeal.sig) → Buf (Elt Ideal) ℓ) (ρ : Dev Cert.KernelIdeal.nD → PrngReg)
    (hx : ∀ c, Bounded (Xq m c)) (hk : ∀ c, Bounded (Xk m c)) (hv : ∀ c, Bounded (Xv m c)) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2) = G3 (Xq m c) (Xk m c) (Xv m c)
      ∧ r.2.mem ((c.tc : Thread Cert.KernelIdeal.nD Cert.KernelIdeal.τ).loc Cert.KernelIdeal.main_v3) = G4 (Xq m c) (Xk m c) (Xv m c)
      ∧ r.2.mem ((c.tc : Thread Cert.KernelIdeal.nD Cert.KernelIdeal.τ).loc Cert.KernelIdeal.main_v6) = G5 (Xq m c) (Xk m c) (Xv m c)
      ∧ r.2.mem ((c.tc : Thread Cert.KernelIdeal.nD Cert.KernelIdeal.τ).loc Cert.KernelIdeal.main_v7) = G6 (Xq m c) (Xk m c) (Xv m c)
      ∧ r.2.mem ((c.tc : Thread Cert.KernelIdeal.nD Cert.KernelIdeal.τ).loc Cert.KernelIdeal.main_v10) = G7 (Xq m c) (Xk m c) (Xv m c)
      ∧ r.2.mem ((c.tc : Thread Cert.KernelIdeal.nD Cert.KernelIdeal.τ).loc Cert.KernelIdeal.main_v11) = G8 (Xq m c) (Xk m c) (Xv m c)
      ∧ r.2.mem ((c.tc : Thread Cert.KernelIdeal.nD Cert.KernelIdeal.τ).loc Cert.KernelIdeal.main_v14) = G9 (Xq m c) (Xk m c) (Xv m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun r h c =>
    ⟨(h c Cert.KernelIdeal.main_v2 (by decide)).trans ((W4_y m ρ c).trans (res_y _ _ _ (hx c) (hk c) (hv c) _)),
     (h c Cert.KernelIdeal.main_v3 (by decide)).trans ((W4_v3 m ρ c).trans ((qc_eq _ (hx c) _).trans (ref_q _ _ _).symm)),
     (h c Cert.KernelIdeal.main_v6 (by decide)).trans ((W4_v6 m ρ c).trans ((qs_eq _ (hx c) _ _ _).trans (ref_qs _ _ _).symm)),
     (h c Cert.KernelIdeal.main_v7 (by decide)).trans ((W4_v7 m ρ c).trans ((kc_eq _ (hk c) _).trans (ref_k _ _ _).symm)),
     (h c Cert.KernelIdeal.main_v10 (by decide)).trans ((W4_v10 m ρ c).trans ((ks_eq _ (hk c) _ _ _).trans (ref_ks _ _ _).symm)),
     (h c Cert.KernelIdeal.main_v11 (by decide)).trans ((W4_v11 m ρ c).trans ((kc_eq _ (hv c) _).trans (ref_v _ _ _).symm)),
     (h c Cert.KernelIdeal.main_v14 (by decide)).trans ((W4_v14 m ρ c).trans ((ks_eq _ (hv c) _ _ _).trans (ref_vs _ _ _).symm)),
     (h c Cert.KernelIdeal.main_arg0 (by decide)).trans (Cert.KernelIdeal.Gen.W4_args m ρ c _ (by decide)),
     (h c Cert.KernelIdeal.main_arg1 (by decide)).trans (Cert.KernelIdeal.Gen.W4_args m ρ c _ (by decide)),
     (h c Cert.KernelIdeal.main_arg2 (by decide)).trans (Cert.KernelIdeal.Gen.W4_args m ρ c _ (by decide))⟩) (run_all m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_inputs
public import proofs.«01_k».proof.Proof.Results
public import Idealize.ShloMosaic.Adequacy
public import Idealize.ShloMosaic.Init

@[expose] public section

noncomputable section

namespace Cert.Proof

open Idealize.ShloMosaic Idealize.SL.Sem Cert.Kernel

/-- The named constant of the kernel is the real number its table gives it. -/
theorem preserves : Cert.preserves_Kernel_KernelIdeal :=
  IdealRules.named_const.statement Cert.KernelIdeal.κ "log2e" .f32 0x3FB8AA3B#32 (((Real.log 2)⁻¹ : ℝ) : EReal) rfl

/-- From bounded arguments the kernel and the reference end with the same seven results. -/
theorem algebraic [hP : Cert.Pre_finite_inputs.Facts] : Cert.algebraic_KernelIdeal_ReferenceIdeal_pre_finite_inputs (hKernelIdeal := Cert.KernelIdeal.Gen.facts)
    (hReferenceIdeal := Cert.ReferenceIdeal.Gen.facts) (hPre_finite_inputs := hP) := by
  intro m g m' g' hpre hagree
  have hb := fun c => Cert.Equal.bounded_of_pre _ _ _ (hpre c)
  refine ⟨_, _, _, _, _, _, _, kernel_run m g (fun c => (hb c).1) (fun c => (hb c).2.1) (fun c => (hb c).2.2), ?_⟩
  refine (θ_run _ _ _).mono (fun r h c => ?_) (Cert.ReferenceIdeal.Val.run m' g')
  obtain ⟨h0, h1, h2⟩ := hagree c
  have hc := h c
  rw [h0, h1, h2] at hc
  rw [h0, h1, h2]
  exact hc

/-- All the claims: the frames of the three programs, the ideal kernel as the kernel over the extended reals, and the equality of the seven results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  preserves, algebraic⟩

end Cert.Proof

end
